-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S16384x1024 : Shape := ⟨2, ![16384, 1024]⟩
abbrev S4x1024x512 : Shape := ⟨3, ![4, 1024, 512]⟩
abbrev S2x2x1024x512 : Shape := ⟨4, ![2, 2, 1024, 512]⟩
abbrev S4 : Shape := ⟨1, ![4]⟩
abbrev S2x2048x1024 : Shape := ⟨3, ![2, 2048, 1024]⟩
abbrev S2 : Shape := ⟨1, ![2]⟩
abbrev S_ : Shape := ⟨0, ![]⟩
abbrev S1x1024x512 : Shape := ⟨3, ![1, 1024, 512]⟩
abbrev S1 : Shape := ⟨1, ![1]⟩
abbrev S1024x1024 : Shape := ⟨2, ![1024, 1024]⟩
abbrev S1x1024x1024 : Shape := ⟨3, ![1, 1024, 1024]⟩
abbrev S1x1x1024x512 : Shape := ⟨4, ![1, 1, 1024, 512]⟩
abbrev S1x2x1024x512 : Shape := ⟨4, ![1, 2, 1024, 512]⟩
abbrev S2x1024x512 : Shape := ⟨3, ![2, 1024, 512]⟩
abbrev S2048x512 : Shape := ⟨2, ![2048, 512]⟩
abbrev S2048x1024 : Shape := ⟨2, ![2048, 1024]⟩
abbrev S1x2048x1024 : Shape := ⟨3, ![1, 2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S16384x1024, .f32⟩
  | .local _ .vmem, ⟨0, _⟩ => ⟨S1024x512, .f32⟩
  | .local _ .vmem, ⟨1, _⟩ => ⟨S512x1024, .f32⟩
  | .local _ .vmem, ⟨2, _⟩ => ⟨S4x1024x512, .bf16⟩
  | .local _ .vmem, ⟨3, _⟩ => ⟨S4x1024x512, .bf16⟩
  | .local _ .vmem, ⟨4, _⟩ => ⟨S2x2x1024x512, .bf16⟩
  | .local _ .vmem, ⟨5, _⟩ => ⟨S2x2048x1024, .f32⟩
  | .local _ .vmem, ⟨6, _⟩ => ⟨S512x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 3 26 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch7 : Ref sig .tc := ⟨.vmem, 5, rfl⟩
abbrev cc0_scratch10 : Ref sig .tc := ⟨.vmem, 6, rfl⟩
abbrev cc0_sem0_0 : DmaSem sig := 0
abbrev cc0_sem1_0 : DmaSem sig := 1
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30 : BitVec 32 := 1#32
  let v45 : BitVec 32 := Scalar.muli v13 c1_i32_30
  let v46 : BitVec 32 := Scalar.addi c0_i32_31 v45
  v46.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_33 : BitVec 32 := 1#32
  let v47 : BitVec 32 := Scalar.muli v24 c1_i32_33
  let v48 : BitVec 32 := Scalar.addi c0_i32_34 v47
  v48.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_40 : BitVec 32 := 1#32
  let v49 : BitVec 32 := Scalar.muli v24 c1_i32_40
  let v50 : BitVec 32 := Scalar.addi c0_i32_41 v49
  v50.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_52 : BitVec 32 := 1#32
  let v59 : BitVec 32 := Scalar.muli v13 c1_i32_52
  let v60 : BitVec 32 := Scalar.addi c0_i32_53 v59
  v60.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v74 : BitVec 32 := Scalar.muli v2 c1024_i32
  let c0_i32_65 : BitVec 32 := 0#32
  ![v74.toNat, 0]
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_88 : BitVec 32 := 1#32
  let v94 : BitVec 32 := Scalar.muli v13 c1_i32_88
  let v95 : BitVec 32 := Scalar.addi c0_i32_89 v94
  v95.toNat
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_118 : BitVec 32 := 1#32
  let v116 : BitVec 32 := Scalar.muli v24 c1_i32_118
  let v117 : BitVec 32 := Scalar.addi c0_i32_119 v116
  v117.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_134 : BitVec 32 := 1#32
  let v124 : BitVec 32 := Scalar.muli v24 c1_i32_134
  let v125 : BitVec 32 := Scalar.addi c0_i32_135 v124
  v125.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_146 : BitVec 32 := 1#32
  let v134 : BitVec 32 := Scalar.muli v13 c1_i32_146
  let v135 : BitVec 32 := Scalar.addi c0_i32_147 v134
  v135.toNat
def k0_off2 (d0 : Dev nD) (c1_i32_177 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v164 : BitVec 32 := Scalar.subi v2 c1_i32_177
  let c16_i32_178 : BitVec 32 := 16#32
  let c0_i32_179 : BitVec 32 := 0#32
  let v165 : BitVec 1 := Scalar.cmpi .eq c16_i32_178 c0_i32_179
  let c1_i32_180 : BitVec 32 := 1#32
  let v166 : BitVec 32 := Scalar.select v165 c1_i32_180 c16_i32_178
  let v167 : BitVec 32 := Scalar.remsi v164 v166
  let c0_i32_182 : BitVec 32 := 0#32
  let v169 : BitVec 1 := Scalar.cmpi .slt v167 c0_i32_182
  let c0_i32_183 : BitVec 32 := 0#32
  let v170 : BitVec 1 := Scalar.cmpi .slt v166 c0_i32_183
  let v171 : BitVec 1 := Scalar.xori v169 v170
  let c0_i32_181 : BitVec 32 := 0#32
  let v168 : BitVec 1 := Scalar.cmpi .ne v167 c0_i32_181
  let v172 : BitVec 1 := Scalar.andi v171 v168
  let v173 : BitVec 32 := Scalar.addi v167 v166
  let v174 : BitVec 32 := Scalar.select v172 v173 v167
  let c1024_i32_184 : BitVec 32 := 1024#32
  let v175 : BitVec 32 := Scalar.muli v174 c1024_i32_184
  let c0_i32_187 : BitVec 32 := 0#32
  ![v175.toNat, 0]
def k0_off3 (d0 : Dev nD) (c1_i32_190 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v181 : BitVec 32 := Scalar.addi v2 c1_i32_190
  let c16_i32_191 : BitVec 32 := 16#32
  let c0_i32_192 : BitVec 32 := 0#32
  let v182 : BitVec 1 := Scalar.cmpi .eq c16_i32_191 c0_i32_192
  let c1_i32_193 : BitVec 32 := 1#32
  let v183 : BitVec 32 := Scalar.select v182 c1_i32_193 c16_i32_191
  let v184 : BitVec 32 := Scalar.remsi v181 v183
  let c0_i32_195 : BitVec 32 := 0#32
  let v186 : BitVec 1 := Scalar.cmpi .slt v184 c0_i32_195
  let c0_i32_196 : BitVec 32 := 0#32
  let v187 : BitVec 1 := Scalar.cmpi .slt v183 c0_i32_196
  let v188 : BitVec 1 := Scalar.xori v186 v187
  let c0_i32_194 : BitVec 32 := 0#32
  let v185 : BitVec 1 := Scalar.cmpi .ne v184 c0_i32_194
  let v189 : BitVec 1 := Scalar.andi v188 v185
  let v190 : BitVec 32 := Scalar.addi v184 v183
  let v191 : BitVec 32 := Scalar.select v189 v190 v184
  let c1024_i32_197 : BitVec 32 := 1024#32
  let v192 : BitVec 32 := Scalar.muli v191 c1024_i32_197
  let c0_i32_200 : BitVec 32 := 0#32
  ![v192.toNat, 0]
def k0_dev11 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_223 : BitVec 32 := 1#32
  let v212 : BitVec 32 := Scalar.muli v13 c1_i32_223
  let v213 : BitVec 32 := Scalar.addi c0_i32_224 v212
  v213.toNat
def k0_dev12 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_253 : BitVec 32 := 1#32
  let v234 : BitVec 32 := Scalar.muli v24 c1_i32_253
  let v235 : BitVec 32 := Scalar.addi c0_i32_254 v234
  v235.toNat
def k0_dev13 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_269 : BitVec 32 := 1#32
  let v242 : BitVec 32 := Scalar.muli v24 c1_i32_269
  let v243 : BitVec 32 := Scalar.addi c0_i32_270 v242
  v243.toNat
def k0_dev14 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_281 : BitVec 32 := 1#32
  let v252 : BitVec 32 := Scalar.muli v13 c1_i32_281
  let v253 : BitVec 32 := Scalar.addi c0_i32_282 v252
  v253.toNat
def k0_dev15 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_364 : BitVec 32 := 1#32
  let v335 : BitVec 32 := Scalar.muli v13 c1_i32_364
  let v336 : BitVec 32 := Scalar.addi c0_i32_365 v335
  v336.toNat
def k0_dev16 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_394 : BitVec 32 := 1#32
  let v357 : BitVec 32 := Scalar.muli v24 c1_i32_394
  let v358 : BitVec 32 := Scalar.addi c0_i32_395 v357
  v358.toNat
def k0_dev17 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_410 : BitVec 32 := 1#32
  let v365 : BitVec 32 := Scalar.muli v24 c1_i32_410
  let v366 : BitVec 32 := Scalar.addi c0_i32_411 v365
  v366.toNat
def k0_dev18 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_422 : BitVec 32 := 1#32
  let v375 : BitVec 32 := Scalar.muli v13 c1_i32_422
  let v376 : BitVec 32 := Scalar.addi c0_i32_423 v375
  v376.toNat
def k0_dev19 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_510 : BitVec 32 := 1#32
  let v463 : BitVec 32 := Scalar.muli v13 c1_i32_510
  let v464 : BitVec 32 := Scalar.addi c0_i32_511 v463
  v464.toNat
def k0_dev20 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_540 : BitVec 32 := 1#32
  let v485 : BitVec 32 := Scalar.muli v24 c1_i32_540
  let v486 : BitVec 32 := Scalar.addi c0_i32_541 v485
  v486.toNat
def k0_dev21 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_556 : BitVec 32 := 1#32
  let v493 : BitVec 32 := Scalar.muli v24 c1_i32_556
  let v494 : BitVec 32 := Scalar.addi c0_i32_557 v493
  v494.toNat
def k0_dev22 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_568 : BitVec 32 := 1#32
  let v503 : BitVec 32 := Scalar.muli v13 c1_i32_568
  let v504 : BitVec 32 := Scalar.addi c0_i32_569 v503
  v504.toNat
def k0_dev23 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_655 : BitVec 32 := 1#32
  let v591 : BitVec 32 := Scalar.muli v13 c1_i32_655
  let v592 : BitVec 32 := Scalar.addi c0_i32_656 v591
  v592.toNat
def k0_dev24 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_685 : BitVec 32 := 1#32
  let v613 : BitVec 32 := Scalar.muli v24 c1_i32_685
  let v614 : BitVec 32 := Scalar.addi c0_i32_686 v613
  v614.toNat
def k0_dev25 (d0 : Dev nD) : Nat :=
  let c0_i32_702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_701 : BitVec 32 := 1#32
  let v621 : BitVec 32 := Scalar.muli v24 c1_i32_701
  let v622 : BitVec 32 := Scalar.addi c0_i32_702 v621
  v622.toNat
def k0_dev26 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_713 : BitVec 32 := 1#32
  let v631 : BitVec 32 := Scalar.muli v13 c1_i32_713
  let v632 : BitVec 32 := Scalar.addi c0_i32_714 v631
  v632.toNat
def k0_dev27 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_800 : BitVec 32 := 1#32
  let v719 : BitVec 32 := Scalar.muli v13 c1_i32_800
  let v720 : BitVec 32 := Scalar.addi c0_i32_801 v719
  v720.toNat
def k0_dev28 (d0 : Dev nD) : Nat :=
  let c0_i32_844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_843 : BitVec 32 := 1#32
  let v747 : BitVec 32 := Scalar.muli v24 c1_i32_843
  let v748 : BitVec 32 := Scalar.addi c0_i32_844 v747
  v748.toNat
def k0_dev29 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_855 : BitVec 32 := 1#32
  let v757 : BitVec 32 := Scalar.muli v13 c1_i32_855
  let v758 : BitVec 32 := Scalar.addi c0_i32_856 v757
  v758.toNat
def k0_dev30 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_982 : BitVec 32 := 1#32
  let v871 : BitVec 32 := Scalar.muli v24 c1_i32_982
  let v872 : BitVec 32 := Scalar.addi c0_i32_983 v871
  v872.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Common.lean ====
/-
The ring all-gather with the matrix product, as a protocol: the ring of sixteen devices, the slots, cells and
payments of it, and what each cell's payer hands over.

Two chains run around the ring at once, one per direction (`true`: to the next device, `false`: to the previous
one). At hop `h` of a direction a device sends the block it last received on to its neighbour's slot `h % 4`. Before
hop 0 every device tells both neighbours on the barrier semaphore that it is there. A credit semaphore per direction
counts the slots its receiver has emptied.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TalkSites
public import Idealize.ShloMosaic.Lib.Pipeline.TableIdle
public import Idealize.ShloMosaic.Lib.VecWindow
public import Idealize.ShloMosaic.Lib.Transfers
public import Idealize.ShloMosaic.Lib.Rounds
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

/-! ## The resource algebra -/

/-- The user algebra: the launch's own copy, the rounds' (duties named by numbers) and the counters of transfers in flight. -/
abbrev UB : Type := URounds (GSem nD τ sig) ℕ
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

variable (m : (ℓ : Loc nD τ sig) → Buf (Elt F) ℓ) (ρ : Dev nD → PrngReg)

/-- The state a run starts from: the memory, the semaphores at zero, the generators' registers. -/
def s₀ : MemSt nD τ sig (Elt F) := ⟨m, fun _ => 0, ρ⟩

/-! ## The ring -/

/-- The next device around the ring, -/
def nxt (c : Dev nD) : Dev nD := ⟨(c.val + 1) % 16, Nat.mod_lt _ (by decide)⟩
/-- and the previous one. -/
def prv (c : Dev nD) : Dev nD := ⟨(c.val + 15) % 16, Nat.mod_lt _ (by decide)⟩

/-- Where direction `d` sends: `true` to the next device, `false` to the previous one. -/
def fwd : Bool → Dev nD → Dev nD
  | true => nxt
  | false => prv

theorem fwd_not_fwd (d : Bool) (c : Dev nD) : fwd (!d) (fwd d c) = c := by revert d c; decide
theorem fwd_fwd_not (d : Bool) (c : Dev nD) : fwd d (fwd (!d) c) = c := by revert d c; decide

/-- Going one step in direction `d`, as a permutation of the devices. -/
def ring (d : Bool) : Dev nD ≃ Dev nD := ⟨fwd d, fwd (!d), fwd_not_fwd d, fwd_fwd_not d⟩

/-- The device `h` steps against direction `d` from `c`: whose block hop `h` of `d` sends out of `c`. -/
def org (d : Bool) : ℕ → Dev nD → Dev nD
  | 0, c => c
  | h + 1, c => org d h (fwd (!d) c)

theorem org_succ (d : Bool) (h : ℕ) (c : Dev nD) : org d (h + 1) (fwd d c) = org d h c := by
  rw [org, fwd_not_fwd]

/-- How many hops direction `d` makes. -/
def hops : Bool → ℕ
  | true => 8
  | false => 7

/-! ## The slots, the staging pieces and the semaphores -/

/-- The four slots of direction `d`'s receive buffer, as the program slices them. -/
def slotM (d : Bool) (s : Fin 4) : Memref sig .tc .vmem S1024x512 .bf16 :=
  match d with
  | true => ((Memref.whole cc0_scratch0).slice (Rect.unit (s := S4x1024x512) ![s.val, 0, 0] S1x1024x512.size
      (by revert s; decide)) (fun _ => rfl)).squeeze S1024x512 squeezes_S1x1024x512_S1024x512
  | false => ((Memref.whole cc0_scratch1).slice (Rect.unit (s := S4x1024x512) ![s.val, 0, 0] S1x1024x512.size
      (by revert s; decide)) (fun _ => rfl)).squeeze S1024x512 squeezes_S1x1024x512_S1024x512

/-- The slot hop `h` uses at its receiver. -/
abbrev sl (h : ℕ) : Fin 4 := ⟨h % 4, Nat.mod_lt _ (by decide)⟩

abbrev barS : Sem sig := (SemArray.scalar (sig.barrier 0 rfl) : Sems sig S_).sem
/-- The credit semaphore of direction `d`. -/
def crdS : Bool → Sem sig
  | true => cc0_scratch13.sem
  | false => cc0_scratch14.sem
/-- The receive semaphore of slot `s` of direction `d`, -/
def rcvS (d : Bool) (s : Fin 4) : DmaSem sig :=
  match d with
  | true => ((cc0_scratch4.slice (Rect.unit (s := S4) ![s.val] S1.size (by revert s; decide))).squeeze S_ squeezes_S1_S_).sem
  | false => ((cc0_scratch6.slice (Rect.unit (s := S4) ![s.val] S1.size (by revert s; decide))).squeeze S_ squeezes_S1_S_).sem
/-- and the send semaphore. -/
def sndS (d : Bool) (s : Fin 4) : DmaSem sig :=
  match d with
  | true => ((cc0_scratch3.slice (Rect.unit (s := S4) ![s.val] S1.size (by revert s; decide))).squeeze S_ squeezes_S1_S_).sem
  | false => ((cc0_scratch5.slice (Rect.unit (s := S4) ![s.val] S1.size (by revert s; decide))).squeeze S_ squeezes_S1_S_).sem

/-- What a slot's block weighs on a DMA semaphore. -/
def wN : ℕ := (slotM true 0).view.dmaCredit

theorem wN_pos : 0 < wN := by decide

theorem slotM_credit (d : Bool) (s : Fin 4) : (slotM d s).view.dmaCredit = wN := by
  cases d <;> rfl

/-! ## The values -/

/-- Device `c`'s block of `A` and its copy of `B`, as the launch's windows stage them. -/
abbrev xv (c : Dev nD) : Vec F S1024x512 .f32 := m (c.tc.loc main_arg0)
abbrev bv (c : Dev nD) : Vec F S512x1024 .f32 := m (c.tc.loc main_arg1)

/-- Device `c`'s block of `A` at the width it travels at, -/
def abf (c : Dev nD) : Vec F S1024x512 .bf16 := k0_pay1 (xv m c)
/-- and the block hop `h` of direction `d` sends out of `c`. -/
abbrev blk (d : Bool) (h : ℕ) (c : Dev nD) : Vec F S1024x512 .bf16 := abf m (org d h c)

/-! ## Buffers with named contents -/

section Holds
variable {ms : Space} {s : Shape} {e : EltTy}

/-- Share `q` of what `M` names of device `c`, holding the block `X`. -/
def holds (M : Memref sig .tc ms s e) (c : Dev nD) (q : PosShare TreeShare) (X : Vec F s e) : sProp 𝕄 :=
  M.view.loc c.tc ↦[M.view.set]{q} M.view.rep X

/-- All of what `M` names of device `c`, whatever it holds. -/
def anyOf (M : Memref sig .tc ms s e) (c : Dev nD) : sProp 𝕄 := iprop(∃ X, holds (F := F) M c fullShare X)

end Holds

/-! ## The payments -/

/-- A payment of the protocol, named by what it answers for: `bar d` a device's word to its neighbour in direction `d`
    that it is there; `crd d j` the `j`-th credit for emptied slots of direction `d`; `rcv d h` the block of hop `h`. -/
inductive Site
  | bar (d : Bool)
  | crd (d : Bool) (j : ℕ)
  | rcv (d : Bool) (h : ℕ)
  deriving DecidableEq

namespace Site

/-- The semaphore the payment is made on, -/
def sem : Site → SemLoc sig
  | bar _ => .reg barS
  | crd d _ => .reg (crdS d)
  | rcv d h => .dma (rcvS d (sl h))
/-- whom a device pays, -/
def tgt : Site → Dev nD → Dev nD
  | bar d => fwd d
  | crd d _ => fwd (!d)
  | rcv d _ => fwd d
/-- the round of its cell, -/
def round : Site → ℕ
  | rcv _ h => h / 4
  | _ => 0
/-- its name within the round, -/
def duty : Site → ℕ
  | bar d => d.toNat
  | crd _ j => j
  | rcv _ _ => 0
/-- its units, -/
def units : Site → ℕ
  | bar _ => 1
  | crd _ j => if j = 0 then 2 else 1
  | rcv _ _ => wN
/-- and its level: a device waits for a payment only while it owes payments of higher levels. -/
def idx : Site → ℕ
  | bar _ => 1
  | crd _ 0 => 2
  | crd d (j + 1) => 4 * j + 12 + (!d).toNat
  | rcv d h => 4 * h + 10 + (!d).toNat

/-- The cell of device `c` the payment lands on. -/
abbrev cell (x : Site) (c : Dev nD) : GSem nD τ sig := (c.tc, x.sem)

theorem units_pos (x : Site) : 0 < x.units := by
  cases x <;> simp only [units] <;> first | omega | exact wN_pos | (split <;> omega)

end Site

/-- The payments of one hop, as the program makes them: the two blocks, and then a credit for each. -/
def hopSites (h : ℕ) : List Site :=
  [.rcv true h] ++ (if h < 7 then [.rcv false h] else []) ++ (if h < 6 then [.crd true (h + 1)] else [])
    ++ (if h < 5 then [.crd false (h + 1)] else [])

/-- All payments a device makes, in order. -/
def sites : List Site :=
  [.bar false, .bar true, .crd true 0, .crd false 0] ++ (List.range 8).flatMap hopSites

/-- Which direction and slot a DMA semaphore receives for, if it receives. -/
def rcvOf (q : DmaSem sig) : Option (Bool × ℕ) :=
  if 6 ≤ q.val ∧ q.val < 10 then some (true, q.val - 6)
  else if 14 ≤ q.val ∧ q.val < 18 then some (false, q.val - 14) else none

/-- The payment named `e` of round `r` of a semaphore. -/
def siteAt : SemLoc sig → ℕ → ℕ → Option Site
  | .reg q, r, e =>
      if r ≠ 0 then none
      else if q = barS then (if e = 0 then some (.bar false) else if e = 1 then some (.bar true) else none)
      else if q = crdS true then (if e < 7 then some (.crd true e) else none)
      else (if e < 6 then some (.crd false e) else none)
  | .dma q, r, e =>
      match rcvOf q with
      | some (d, s) => if e = 0 ∧ 4 * r + s < hops d then some (.rcv d (4 * r + s)) else none
      | none => none

theorem siteAt_site : ∀ x ∈ sites, siteAt x.sem x.round x.duty = some x := by decide

/-- Hop `h`'s landing slot of direction `d` on device `c`, empty, and its receive semaphore at the hop's round. -/
def free (d : Bool) (h : ℕ) (c : Dev nD) : sProp 𝕄 :=
  iprop(anyOf (F := F) (slotM d (sl h)) c ∗ reached ER ((Site.rcv d h).cell c) (h / 4))

/-- What a block of hop `h` of direction `d` sent by `p` brings along: from hop 2 on, the leave for `p`'s own slot of
    the other direction. -/
def carry (d : Bool) (h : ℕ) (p : Dev nD) : sProp 𝕄 :=
  if 2 ≤ h ∧ h + 1 < hops (!d) then free (F := F) (!d) (h + 1) p else iprop(emp)

/-- What payment `x` hands to device `c`. -/
def pay : Site → Dev nD → sProp 𝕄
  | .bar d, c => iprop(free (F := F) (!d) 0 (fwd (!d) c) ∗ free (F := F) (!d) 1 (fwd (!d) c) ∗ free (F := F) (!d) 2 (fwd (!d) c))
  | .crd _ _, _ => iprop(emp)
  | .rcv d h, c => iprop(holds (slotM d (sl h)) c fullShare (blk m d (h + 1) c) ∗ carry (F := F) d h (fwd (!d) c))

/-- The payment's duties, round by round. -/
def Rd : Schedule (GSem nD τ sig) ℕ 𝕄 where
  duties g r := (Finset.range 7).filter fun e => (siteAt g.2 r e).isSome
  amount g r e := match siteAt g.2 r e with
    | some x => x.units
    | none => 1
  payload g r e := match siteAt g.2 r e with
    | some x => pay m x g.1.1
    | none => iprop(emp)
  amount_pos g r e _ := by
    cases siteAt g.2 r e with
    | some x => exact x.units_pos
    | none => exact Nat.one_pos

section Tables

variable {x : Site} (hx : x ∈ sites) (c : Dev nD)
include hx

theorem duty_mem : x.duty ∈ (Rd m).duties (x.cell c) x.round := by
  refine Finset.mem_filter.mpr ⟨?_, ?_⟩
  · revert x; decide
  · show (siteAt x.sem x.round x.duty).isSome = true
    rw [siteAt_site x hx]; rfl

theorem amount_at : (Rd m).amount (x.cell c) x.round x.duty = x.units := by
  show (match siteAt x.sem x.round x.duty with | some y => y.units | none => 1) = _
  rw [siteAt_site x hx]

theorem payload_at : (Rd m).payload (x.cell c) x.round x.duty = pay m x c := by
  show (match siteAt x.sem x.round x.duty with | some y => pay m y c | none => iprop(emp)) = _
  rw [siteAt_site x hx]

end Tables

theorem duties_bar (c : Dev nD) : (Rd m).duties (c.tc, .reg barS) 0 = {0, 1} := by
  show (Finset.range 7).filter (fun e => (siteAt (.reg barS) 0 e).isSome) = _
  decide
theorem duties_crd (d : Bool) (c : Dev nD) : (Rd m).duties (c.tc, .reg (crdS d)) 0 = Finset.range (hops d - 1) := by
  show (Finset.range 7).filter (fun e => (siteAt (.reg (crdS d)) 0 e).isSome) = _
  revert d; decide
theorem duties_rcv (d : Bool) (h : ℕ) (hh : h < hops d) (c : Dev nD) : (Rd m).duties ((Site.rcv d h).cell c) (h / 4) = {0} := by
  show (Finset.range 7).filter (fun e => (siteAt (.dma (rcvS d (sl h))) (h / 4) e).isSome) = _
  revert d h; decide

/-- From round 1 on a regular semaphore's cell has no duties, -/
theorem duties_reg_later (c : Dev nD) (q : Sem sig) (r : ℕ) (hr : 1 ≤ r) : (Rd m).duties (c.tc, .reg q) r = ∅ := by
  refine Finset.filter_false_of_mem fun e _ => ?_
  show ¬ (siteAt (.reg q) r e).isSome
  unfold siteAt
  dsimp only
  rw [if_pos (show r ≠ 0 by omega)]; simp
/-- and a receive semaphore's has none after its last hop's. -/
theorem duties_rcv_later (c : Dev nD) (d : Bool) (s : Fin 4) (r : ℕ) (hr : hops d ≤ 4 * r + s.val) : (Rd m).duties (c.tc, .dma (rcvS d s)) r = ∅ := by
  refine Finset.filter_false_of_mem fun e _ => ?_
  show ¬ (siteAt (.dma (rcvS d s)) r e).isSome
  unfold siteAt
  have h : rcvOf (rcvS d s) = some (d, s.val) := by clear hr; revert d s; decide
  dsimp only
  rw [h]
  dsimp only
  rw [if_neg (by omega)]; simp

theorem site_bar_mem (d : Bool) : Site.bar d ∈ sites := by revert d; decide
theorem site_crd_mem (d : Bool) (j : ℕ) (hj : j < hops d - 1) : Site.crd d j ∈ sites := by revert d j; decide
theorem site_rcv_mem (d : Bool) (h : ℕ) (hh : h < hops d) : Site.rcv d h ∈ sites := by revert d h; decide

theorem expect_bar (c : Dev nD) : (Rd m).expect (c.tc, .reg barS) 0 = 2 := by
  unfold Schedule.expect Schedule.amountOf
  rw [duties_bar, Finset.sum_pair (by decide)]
  exact congrArg₂ (· + ·) (amount_at m (site_bar_mem false) c) (amount_at m (site_bar_mem true) c)
theorem expect_crd (d : Bool) (c : Dev nD) : (Rd m).expect (c.tc, .reg (crdS d)) 0 = hops d := by
  unfold Schedule.expect Schedule.amountOf
  rw [duties_crd]
  refine (Finset.sum_congr rfl fun e he => amount_at m (site_crd_mem d e (Finset.mem_range.mp he)) c).trans ?_
  revert d; decide
theorem expect_rcv (d : Bool) (h : ℕ) (hh : h < hops d) (c : Dev nD) : (Rd m).expect ((Site.rcv d h).cell c) (h / 4) = wN := by
  unfold Schedule.expect Schedule.amountOf
  rw [duties_rcv m d h hh, Finset.sum_singleton]
  exact amount_at m (site_rcv_mem d h hh) c

/-! ## What is stored in the cells' invariants -/

section Storable
variable {ms : Space} {s : Shape} {e : EltTy}
instance holds_storable (M : Memref sig .tc ms s e) (c : Dev nD) (q : PosShare TreeShare) (X : Vec F s e) :
    BI.Storable (upEmb : UEmb _ 𝕄) (holds M c q X) := by unfold holds; infer_instance
instance anyOf_storable (M : Memref sig .tc ms s e) (c : Dev nD) : BI.Storable (upEmb : UEmb _ 𝕄) (anyOf (F := F) M c) := by
  unfold anyOf; infer_instance
end Storable

instance free_storable (d : Bool) (h : ℕ) (c : Dev nD) : BI.Storable (upEmb : UEmb _ 𝕄) (free (F := F) d h c) := by
  unfold free; infer_instance
instance carry_storable (d : Bool) (h : ℕ) (c : Dev nD) : BI.Storable (upEmb : UEmb _ 𝕄) (carry (F := F) d h c) := by
  unfold carry; split <;> infer_instance
instance pay_storable (x : Site) (c : Dev nD) : BI.Storable (upEmb : UEmb _ 𝕄) (pay m x c) := by
  cases x <;> unfold pay <;> infer_instance
instance Rd_storable (g : GSem nD τ sig) (r e : ℕ) : BI.Storable (upEmb : UEmb _ 𝕄) ((Rd m).payload g r e) := by
  show BI.Storable upEmb (match siteAt g.2 r e with | some x => pay m x g.1.1 | none => iprop(emp))
  split <;> infer_instance

/-! ## What a device owes, level by level -/

/-- The payment `x` of device `c`, as its cell, level and units. -/
def due (c : Dev nD) (x : Site) : Pay nD τ sig := (x.cell (x.tgt c), x.idx, x.units)

/-- What device `c` still owes after its first `n` payments. -/
def owed (c : Dev nD) (n : ℕ) : CellTallies nD τ sig ℕ := tallyL ((sites.drop n).map (due c))

/-- The levels: above every wait of the kernel. -/
def NL : ℕ := 64

theorem idx_lt : ∀ x ∈ sites, x.idx < NL := by decide

theorem owed_mem {c : Dev nD} {n : ℕ} {g : GSem nD τ sig} {i : ℕ} (h : 0 < owed c n g i) : ∃ x ∈ sites.drop n, g = x.cell (x.tgt c) ∧ i = x.idx := by
  obtain ⟨y, hy, e₁, e₂⟩ := TalkSites.tallyL_pos h
  obtain ⟨x, hx, rfl⟩ := List.mem_map.mp hy
  exact ⟨x, hx, e₁, e₂⟩

omit [FloatOps F] in
/-- A device may wait at level `i` while its remaining payments lie above `i`. -/
theorem mayWait_at (c : Dev nD) (s : SemLoc sig) (i n : ℕ) (hn : ∀ x ∈ sites.drop n, i < x.idx) (hi : i < NL) :
    (levAts (SiteBlocks.L NL) SiteBlocks.lv : sProp 𝕄) ⊢ MayWait c.tc s i (owed c n) :=
  SiteBlocks.mayWait_of hi c s _ fun g k h => by
    obtain ⟨x, hx, rfl, rfl⟩ := owed_mem h
    exact ⟨SiteBlocks.mem_L _ _ (idx_lt x (List.mem_of_mem_drop hx)), hn x hx⟩

end Cert.Ring
-- ==== Proof.Steps.lean ====
/-
The steps of the protocol, one theorem per kind of effect: a signal, a wait for credit, for the barrier, for a block,
for a copy under way, and a block sent on.
-/
module

public import proofs.«01_k».proof.Proof.Common

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- What device `c` must have to run `p` to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The records every device has -/

/-- The semaphores the payments are made on, and their cells. -/
def chans : Finset (SemLoc sig) := (sites.map Site.sem).toFinset
def cells : Finset (GSem nD τ sig) := Finset.univ.biUnion fun c : Dev nD => chans.image fun s => (c.tc, s)

theorem cell_mem {x : Site} (hx : x ∈ sites) (c : Dev nD) : x.cell c ∈ cells :=
  Finset.mem_biUnion.mpr ⟨c, Finset.mem_univ _, Finset.mem_image.mpr ⟨x.sem, List.mem_toFinset.mpr (List.mem_map_of_mem hx), rfl⟩⟩

/-- Every cell's invariant and that its round 0 is reached, and the levels. -/
def env (K : GSem nD τ sig → ℕ) : sProp 𝕄 :=
  iprop(bigSep cells (fun g => iprop(cellInv ER (Rd m) (K g) g ∗ reached ER g 0)) ∗ levAts (SiteBlocks.L NL) SiteBlocks.lv)

instance env_persistent (K : GSem nD τ sig → ℕ) : BI.Persistent (env m K) := by unfold env; infer_instance

variable {K : GSem nD τ sig → ℕ}

theorem env_at {x : Site} (hx : x ∈ sites) (c : Dev nD) :
    (bigSep cells (fun g => iprop(cellInv ER (Rd m) (K g) g ∗ reached ER g 0)) : sProp 𝕄)
      ⊢ iprop(cellInv ER (Rd m) (K (x.cell c)) (x.cell c) ∗ reached ER (x.cell c) 0) :=
  bigSep_elim (Φ := fun g => iprop(cellInv ER (Rd m) (K g) g ∗ reached ER g 0)) (cell_mem hx c)

theorem env_inv {x : Site} (hx : x ∈ sites) (c : Dev nD) : env m K ⊢ cellInv ER (Rd m) (K (x.cell c)) (x.cell c) := by
  unfold env
  iintro ⟨H, -⟩
  ihave H := (env_at m hx c) $$ H
  icases H with ⟨H, -⟩
  iexact H

theorem env_reached {x : Site} (hx : x ∈ sites) (c : Dev nD) : env m K ⊢ reached ER (x.cell c) 0 := by
  unfold env
  iintro ⟨H, -⟩
  ihave H := (env_at m hx c) $$ H
  icases H with ⟨-, H⟩
  iexact H

theorem env_mayWait (c : Dev nD) (s : SemLoc sig) (i n : ℕ) (hn : ∀ x ∈ sites.drop n, i < x.idx) (hi : i < NL) :
    env m K ⊢ MayWait c.tc s i (owed c n) := by
  unfold env
  iintro ⟨-, H⟩
  iapply (mayWait_at c s i n hn hi) $$ H

/-! ## What a device has still to pay -/

/-- The tokens of the payments in `l`. -/
def toks (c : Dev nD) : List Site → sProp 𝕄
  | [] => iprop(emp)
  | x :: l => iprop(dutyTok ER (x.cell (x.tgt c)) x.round x.duty ∗ toks c l)

/-- Device `c` with its first `n` payments made: what it owes and the tokens to pay it with. -/
def todo (c : Dev nD) (n : ℕ) : sProp 𝕄 :=
  iprop((∃ W, owes (c : Thread nD τ) (owed c n) W) ∗ toks (F := F) c (sites.drop n))

theorem drop_at {n : ℕ} {x : Site} (h : sites[n]? = some x) : sites.drop n = x :: sites.drop (n + 1) := by
  obtain ⟨hn, hx⟩ := List.getElem?_eq_some_iff.mp h
  rw [← hx]; exact List.drop_eq_getElem_cons hn

theorem mem_at {n : ℕ} {x : Site} (h : sites[n]? = some x) : x ∈ sites := List.mem_of_getElem? h

theorem owed_at {n : ℕ} {x : Site} (h : sites[n]? = some x) (c : Dev nD) :
    owed c n = owed c (n + 1) + tallyAt (x.cell (x.tgt c)) x.idx x.units := by
  unfold owed
  rw [drop_at h, List.map_cons, tallyL, add_comm]; rfl

/-- The next payment split off. -/
theorem todo_at {n : ℕ} {x : Site} (h : sites[n]? = some x) (c : Dev nD) :
    (todo c n : sProp 𝕄) = iprop((∃ W, owes (c : Thread nD τ) (owed c (n + 1) + tallyAt (x.cell (x.tgt c)) x.idx x.units) W)
      ∗ dutyTok ER (x.cell (x.tgt c)) x.round x.duty ∗ toks c (sites.drop (n + 1))) := by
  unfold todo
  rw [owed_at h, drop_at h]; rfl

/-! ## The steps -/

/-- Where a device stands on its credit of direction `d`: `n` units taken. -/
def cpos (d : Bool) (c : Dev nD) (n : ℕ) : sProp 𝕄 := iprop(∃ S, atPos ER (c.tc, .reg (crdS d)) 0 S n)
/-- Where it stands on the receive semaphore of hop `h`'s slot: at round `r`. -/
def rpos (d : Bool) (h : ℕ) (c : Dev nD) (r : ℕ) : sProp 𝕄 := atPos ER ((Site.rcv d h).cell c) r ∅ 0

/-- The right to wait for the credit that hop `h` of direction `d` needs, -/
def crdTok (d : Bool) (h : ℕ) (c : Dev nD) : sProp 𝕄 := cred (tallyAt (c.tc, .reg (crdS d)) (Site.crd d (h - 1)).idx 1)
/-- and the right to wait for its block. -/
def rcvTok (d : Bool) (h : ℕ) (c : Dev nD) : sProp 𝕄 := cred (tallyAt ((Site.rcv d h).cell c) (Site.rcv d h).idx wN)

/-- A copy of device `c` under way on semaphore `s`: its wait brings `D`. -/
abbrev flight (c : Dev nD) (s : DmaSem sig) (N : ℕ) (D : sProp 𝕄) : sProp 𝕄 := Flight EC (c : Thread nD τ) (.dma s) 0 N D

section Steps

variable (c : Dev nD)

/-- A signal is payment `n`, `x`: it takes what `x` hands over. -/
theorem run_signal {n : ℕ} {x : Site} (hx : sites[n]? = some x) {q : Sem sig} (hs : x.sem = .reg q) (hr : x.round = 0) {u : ℕ} (hu : x.units = u)
    {t : Dev nD} (ht : t = x.tgt c) {α : Type} {Q : α → sProp 𝕄} {k : PUnit → Prog (TpuEff nD τ sig (Elt F) Λ₀ .tc) α} :
    iprop(env m K ∗ todo c n ∗ pay m x t)
      ⊢ iprop((todo c (n + 1) -∗ run c (k ⟨⟩) Q) -∗ run c (.op (.semSignal (t : Thread nD τ) q u) k) Q) := by
  subst ht hu
  have hcell : (((x.tgt c).tc, .reg q) : GSem nD τ sig) = x.cell (x.tgt c) := by rw [← hs]
  rw [todo_at hx]
  iintro ⟨#He, ⟨⟨%W, HO⟩, Ht, Hl⟩, Hp⟩ Hk
  iapply (Rounds.wp_signal 𝒱₀ ER (Rd m) (c : Thread nD τ) none (dst := (x.tgt c : Thread nD τ)) (sem := q) (r := 0) (d := x.duty) (κ := K (x.cell (x.tgt c)))
      (by rw [hcell, ← hr]; exact duty_mem m (mem_at hx) _) (by rw [hcell, ← hr]; exact amount_at m (mem_at hx) _) x.idx (owed c (n + 1))
      (by rw [hcell]) (W := W)) $$ [HO Ht Hp]
  · rw [hcell]
    isplitr; · iapply (env_inv m (mem_at hx) _); iexact He
    isplitl [HO]; · iexact HO
    rw [← hr]
    isplitl [Ht]; · iexact Ht
    isplitl [Hp]; · rw [payload_at m (mem_at hx)]; iexact Hp
    rw [hr]; iapply (env_reached m (mem_at hx) _); iexact He
  iintro HO
  iapply Hk
  unfold todo
  isplitl [HO]; · iexists W; iexact HO
  iexact Hl

/-- The wait for one unit of credit that hop `h` of direction `d` makes, not the direction's last. -/
theorem run_credit (d : Bool) (h n : ℕ) (hn : ∀ x ∈ sites.drop n, (Site.crd d (h - 1)).idx < x.idx) (hh : h < hops d)
    {q : Sem sig} (hq : crdS d = q) {u : ℕ} (hu : u = 1) {α : Type} {Q : α → sProp 𝕄} {k : PUnit → Prog (TpuEff nD τ sig (Elt F) Λ₀ .tc) α} :
    iprop(env m K ∗ todo c n ∗ crdTok d h c ∗ cpos d c h)
      ⊢ iprop((iprop(todo c n ∗ cpos d c (h + 1)) -∗ run c (k ⟨⟩) Q) -∗ run c (.op (.semWait q u) k) Q) := by
  subst hq hu
  have hi : (Site.crd d (h - 1)).idx < NL := by clear hn; revert d h; decide
  unfold todo crdTok cpos
  iintro ⟨#He, ⟨⟨%W, HO⟩, Hl⟩, Hc, %S, Hat⟩ Hk
  iapply (Rounds.wp_wait 𝒱₀ ER (Rd m) (c : Thread nD τ) none (κ := K ((Site.crd d 0).cell c))
      (wpE_semWait_eq 𝒱₀ (c : Thread nD τ) none Set.univ) (Set.mem_univ _) {(.reg (crdS d), (Site.crd d (h - 1)).idx)}
      (cr := Finsupp.single (Site.crd d (h - 1)).idx 1) (O := owed c n) (W := W) (R := 0) (m := h) (T := S)
      (by rw [Util.total_single]) (image_single_subset _ _ _)) $$ [HO Hc Hat]
  · isplitr; · iapply (env_inv m (x := .crd d 0) (site_crd_mem d 0 (by cases d <;> decide)) c); iexact He
    isplitl [Hc]; · iexact Hc
    isplitl [HO]; · iexact HO
    isplitr; · iapply (env_mayWait m c (.reg (crdS d)) _ n hn hi); iexact He
    iexact Hat
  iintro %S' ⟨-, HO, Hat, -⟩
  iapply Hk
  isplitl [HO Hl]
  · isplitl [HO]; · iexists _; iexact HO
    iexact Hl
  iexists S'; iexact Hat

/-- The last wait of direction `d` for credit. -/
theorem run_credit_last (d : Bool) (h n : ℕ) (hn : ∀ x ∈ sites.drop n, (Site.crd d (h - 1)).idx < x.idx) (hh : h + 1 = hops d)
    {q : Sem sig} (hq : crdS d = q) {u : ℕ} (hu : u = 1) {α : Type} {Q : α → sProp 𝕄} {k : PUnit → Prog (TpuEff nD τ sig (Elt F) Λ₀ .tc) α} :
    iprop(env m K ∗ todo c n ∗ crdTok d h c ∗ cpos d c h)
      ⊢ iprop((iprop(todo c n ∗ semVal (c.tc, .reg (crdS d)) 0) -∗ run c (k ⟨⟩) Q) -∗ run c (.op (.semWait q u) k) Q) := by
  subst hq hu
  have hh' : h < hops d := by omega
  have hi : (Site.crd d (h - 1)).idx < NL := by clear hn hh; revert d h; decide
  unfold todo crdTok cpos
  iintro ⟨#He, ⟨⟨%W, HO⟩, Hl⟩, Hc, %S, Hat⟩ Hk
  iapply (Rounds.wp_wait_rest_token 𝒱₀ ER (Rd m) (c : Thread nD τ) none (κ := K ((Site.crd d 0).cell c))
      (wpE_semWait_eq 𝒱₀ (c : Thread nD τ) none Set.univ) (Set.mem_univ _) (Site.crd d (h - 1)).idx (O := owed c n) (W := W) (R := 0) (m := h) (T := S)
      (by rw [expect_crd, hh])) $$ [HO Hc Hat]
  · isplitr; · iapply (env_inv m (x := .crd d 0) (site_crd_mem d 0 (by cases d <;> decide)) c); iexact He
    isplitl [Hc]; · iexact Hc
    isplitl [HO]; · iexact HO
    isplitr; · iapply (env_mayWait m c (.reg (crdS d)) _ n hn hi); iexact He
    iexact Hat
  iintro ⟨HO, Hat, -, -⟩
  imod (Rounds.cell_close ER (Rd m) (Set.mem_univ (K ((Site.crd d 0).cell c))) (fun h => h) (R := 0 + 1) (duties_reg_later m c (crdS d))) $$ [Hat] with Hz
  · isplitr; · iapply (env_inv m (x := .crd d 0) (site_crd_mem d 0 (by cases d <;> decide)) c); iexact He
    iexact Hat
  iapply Hk
  isplitl [HO Hl]
  · isplitl [HO]; · iexists _; iexact HO
    iexact Hl
  iexact Hz

/-- What the barrier's round hands over: both neighbours' payments. -/
theorem bar_pays :
    bigSep ((Rd m).duties (c.tc, .reg barS) 0 \ ∅) (fun d => (Rd m).payload (c.tc, .reg barS) 0 d)
      ⊢ iprop(pay m (.bar false) c ∗ pay m (.bar true) c) := by
  rw [duties_bar, Finset.sdiff_empty, bigSep_insert (by decide), bigSep_singleton]
  exact BIClass.sep_mono (Entails.of_eq (payload_at m (site_bar_mem false) c)) (Entails.of_eq (payload_at m (site_bar_mem true) c))

/-- The wait for both neighbours' word on the barrier: it brings the leave for the first three slots of each. -/
theorem run_barrier {u : ℕ} (hu : u = 2) {α : Type} {Q : α → sProp 𝕄} {k : PUnit → Prog (TpuEff nD τ sig (Elt F) Λ₀ .tc) α} :
    iprop(env m K ∗ todo c 2 ∗ cred (tallyAt (c.tc, .reg barS) 1 2) ∗ atPos ER (c.tc, .reg barS) 0 ∅ 0)
      ⊢ iprop((iprop(todo c 2 ∗ pay m (.bar false) c ∗ pay m (.bar true) c ∗ semVal (c.tc, .reg barS) 0) -∗ run c (k ⟨⟩) Q)
          -∗ run c (.op (.semWait barS u) k) Q) := by
  subst hu
  unfold todo
  iintro ⟨#He, ⟨⟨%W, HO⟩, Hl⟩, Hc, Hat⟩ Hk
  iapply (Rounds.wp_wait_rest_token 𝒱₀ ER (Rd m) (c : Thread nD τ) none (κ := K ((Site.bar false).cell c))
      (wpE_semWait_eq 𝒱₀ (c : Thread nD τ) none Set.univ) (Set.mem_univ _) 1 (O := owed c 2) (W := W) (R := 0) (m := 0) (T := ∅)
      (by rw [expect_bar])) $$ [HO Hc Hat]
  · isplitr; · iapply (env_inv m (site_bar_mem false) c); iexact He
    isplitl [Hc]; · iexact Hc
    isplitl [HO]; · iexact HO
    isplitr; · iapply (env_mayWait m c (.reg barS) 1 2 (by decide) (by decide)); iexact He
    iexact Hat
  iintro ⟨HO, Hat, -, Hp⟩
  imod (Rounds.cell_close ER (Rd m) (Set.mem_univ (K ((Site.bar false).cell c))) (fun h => h) (R := 0 + 1) (duties_reg_later m c barS)) $$ [Hat] with Hz
  · isplitr; · iapply (env_inv m (site_bar_mem false) c); iexact He
    iexact Hat
  ihave ⟨H0, H1⟩ := (bar_pays m c) $$ Hp
  iapply Hk
  isplitl [HO Hl]
  · isplitl [HO]; · iexists _; iexact HO
    iexact Hl
  isplitl [H0]; · iexact H0
  isplitl [H1]; · iexact H1
  iexact Hz

/-- The wait for the block of hop `h`: it brings the slot holding it and what came along. -/
theorem run_receive (d : Bool) (h n : ℕ) (hn : ∀ x ∈ sites.drop n, (Site.rcv d h).idx < x.idx) (hh : h < hops d)
    {q : DmaSem sig} (hq : rcvS d (sl h) = q) {ms ms' : Space} {s s' : Shape} {e e' : EltTy}
    {src : Memref sig .tc ms s e} {dst : Memref sig .tc ms' s' e'} {w : src.view.WordExact} {w' : dst.view.WordExact} (hN : dst.view.dmaCredit = wN)
    {α : Type} {Q : α → sProp 𝕄} {k : PUnit → Prog (TpuEff nD τ sig (Elt F) Λ₀ .tc) α} :
    iprop(env m K ∗ todo c n ∗ rcvTok d h c ∗ rpos d h c (h / 4))
      ⊢ iprop((iprop(todo c n ∗ rpos d h c (h / 4 + 1) ∗ reached ER ((Site.rcv d h).cell c) (h / 4 + 1)
              ∗ holds (slotM d (sl h)) c fullShare (blk m d (h + 1) c) ∗ carry (F := F) d h (fwd (!d) c)) -∗ run c (k ⟨⟩) Q)
          -∗ run c (.op (.waitDma2 q src dst w w') k) Q) := by
  subst hq
  have hx := site_rcv_mem d h hh
  unfold todo rcvTok rpos
  iintro ⟨#He, ⟨⟨%W, HO⟩, Hl⟩, Hc, Hat⟩ Hk
  iapply (Rounds.wp_wait_rest_token 𝒱₀ ER (Rd m) (c : Thread nD τ) none (κ := K ((Site.rcv d h).cell c))
      (wpE_waitDma2_eq 𝒱₀ (c : Thread nD τ) none Set.univ) (Set.mem_univ _) (Site.rcv d h).idx (O := owed c n) (W := W) (R := h / 4) (m := 0) (T := ∅)
      (by rw [Nat.zero_add, hN]; exact (expect_rcv m d h hh c).symm)) $$ [HO Hc Hat]
  · isplitr; · iapply (env_inv m hx c); iexact He
    isplitl [Hc]; · rw [hN]; iexact Hc
    isplitl [HO]; · iexact HO
    isplitr; · iapply (env_mayWait m c (.dma (rcvS d (sl h))) _ n hn (idx_lt _ hx)); iexact He
    iexact Hat
  iintro ⟨HO, Hat, Hr, Hp⟩
  ihave Hp := (show (bigSep ((Rd m).duties (c.tc, .dma (rcvS d (sl h))) (h / 4) \ ∅) fun e => (Rd m).payload (c.tc, .dma (rcvS d (sl h))) (h / 4) e)
      ⊢ pay m (.rcv d h) c from by
    rw [show (Rd m).duties (c.tc, .dma (rcvS d (sl h))) (h / 4) = {0} from duties_rcv m d h hh c, Finset.sdiff_empty, bigSep_singleton]
    exact Entails.of_eq (payload_at m hx c)) $$ Hp
  unfold pay
  icases Hp with ⟨Hs, Hy⟩
  iapply Hk
  isplitl [HO Hl]
  · isplitl [HO]; · iexists _; iexact HO
    iexact Hl
  isplitl [Hat]; · iexact Hat
  isplitl [Hr]; · iexact Hr
  isplitl [Hs]; · iexact Hs
  iexact Hy

/-- The wait for a copy under way. -/
theorem run_wait (n : ℕ) {q : DmaSem sig} {ms ms' : Space} {s s' : Shape} {e e' : EltTy}
    {src : Memref sig .tc ms s e} {dst : Memref sig .tc ms' s' e'} {w : src.view.WordExact} {w' : dst.view.WordExact} {N : ℕ} (hN : dst.view.dmaCredit = N)
    {D : sProp 𝕄} {α : Type} {Q : α → sProp 𝕄} {k : PUnit → Prog (TpuEff nD τ sig (Elt F) Λ₀ .tc) α} :
    iprop(env m K ∗ todo c n ∗ flight c q N D)
      ⊢ iprop((iprop(todo c n ∗ D ∗ semVal (c.tc, .dma q) 0) -∗ run c (k ⟨⟩) Q) -∗ run c (.op (.waitDma2 q src dst w w') k) Q) := by
  have hn : ∀ x ∈ sites.drop n, 0 < x.idx := fun x hx => (by decide : ∀ x ∈ sites, 0 < x.idx) x (List.mem_of_mem_drop hx)
  unfold todo
  iintro ⟨#He, ⟨⟨%W, HO⟩, Hl⟩, Hf⟩ Hk
  iapply (wp_waitLocalO EC 𝒱₀ (c : Thread nD τ) none 0 hN (O := owed c n) (W := W)) $$ [HO Hf]
  · isplitl [Hf]; · iexact Hf
    isplitl [HO]; · iexact HO
    iapply (env_mayWait m c (.dma q) 0 n hn (by decide)); iexact He
  iintro ⟨HD, Hz, HO⟩
  iapply Hk
  isplitl [HO Hl]
  · isplitl [HO]; · iexists _; iexact HO
    iexact Hl
  isplitl [HD]; · iexact HD
  iexact Hz

theorem blk_succ (d : Bool) (h : ℕ) (c : Dev nD) : blk m d (h + 1) (fwd d c) = blk m d h c := congrArg (abf m) (org_succ d h c)

theorem pay_rcv (d : Bool) (h : ℕ) (c : Dev nD) :
    pay m (.rcv d h) c = iprop(holds (slotM d (sl h)) c fullShare (blk m d (h + 1) c) ∗ carry (F := F) d h (fwd (!d) c)) := rfl

/-- The block of hop `h` landed in its slot is what the payment hands over. -/
theorem send_lands (d : Bool) (h : ℕ) (X : Vec F S1024x512 .bf16) :
    iprop(((slotM d (sl h)).view.loc (fwd d c).tc ↦[(slotM d (sl h)).view.set]{fullShare}
          (slotM d (sl h)).view.write (Elt F) ((slotM d (sl h)).view.rep X) ((slotM d (sl (h + 3))).view.read (Elt F) ((slotM d (sl (h + 3))).view.rep (blk m d h c))) Finset.univ)
        ∗ carry (F := F) d h c)
      ⊢ pay m (.rcv d h) (fwd d c) := by
  rw [pay_rcv]
  unfold holds
  rw [fwd_not_fwd, blk_succ]
  iintro ⟨H, Hy⟩
  isplitl [H]
  · iapply (pointsTo_rep_of_read (fwd d c : Thread nD τ) (slotM d (sl h)) _ fullShare (blk m d h c) (by rw [View.read_write_univ, View.read_rep])) $$ H
  iexact Hy

/-- A copy that delivers what payment `x` hands over pays it at `t` as it lands. -/
theorem land_at {x : Site} (hx : x ∈ sites) (t : Dev nD) {N : ℕ} (hN : x.units = N) {X : sProp 𝕄} (hp : X ⊢ pay m x t) :
    iprop(env m K ∗ dutyTok ER (x.cell t) x.round x.duty ∗ reached ER (x.cell t) x.round) ⊢ creditUpdate (x.cell t) N 0 X := by
  have hl := land_credit (κ := K (x.cell t)) ER (Rd m) (duty_mem m hx t) (hp.trans (Entails.of_eq (payload_at m hx t).symm))
  rw [amount_at m hx t, hN] at hl
  refine BIBase.Entails.trans ?_ hl
  iintro ⟨#He, Ht, Hr⟩
  isplitr; · iapply (env_inv m hx t); iexact He
  isplitl [Ht]; · iexact Ht
  iexact Hr

/-- Hop `h` of direction `d` sends the block in the slot before its own on, payment `n`: it needs the leave for the
    neighbour's slot, and brings along the leave for one of its own. -/
theorem run_send (d : Bool) (h : ℕ) {n : ℕ} (hx : sites[n]? = some (.rcv d h)) {t : Dev nD} (ht : t = fwd d c)
    {src : Memref sig .tc .vmem S1024x512 .bf16} (hsrc : src = slotM d (sl (h + 3)))
    {dst : Memref sig .tc .vmem S1024x512 .bf16} (hdst : dst = slotM d (sl h))
    {qs qr : DmaSem sig} (hqr : rcvS d (sl h) = qr)
    {hsc : dst.view.ref.isScScratch = false} {w : src.view.WordExact} {w' : dst.view.WordExact}
    {hsem : DmaTarget.Typed .vmem (.dma qr) (.remote (Dev.tc t : Thread nD τ) dst (.dma qs) hsc)}
    {q : PosShare TreeShare} {α : Type} {Q : α → sProp 𝕄} {k : PUnit → Prog (TpuEff nD τ sig (Elt F) Λ₀ .tc) α} :
    iprop(env m K ∗ todo c n ∗ holds (slotM d (sl (h + 3))) c q (blk m d h c) ∗ free (F := F) d h (fwd d c) ∗ carry (F := F) d h c
        ∗ semVal (c.tc, .dma qs) 0)
      ⊢ iprop((iprop(todo c (n + 1) ∗ flight c qs wN (holds (slotM d (sl (h + 3))) c q (blk m d h c))) -∗ run c (k ⟨⟩) Q)
          -∗ run c (.op (.enqueueDma src (.remote (Dev.tc t : Thread nD τ) dst (.dma qs) hsc) (.dma qr) w w' hsem) k) Q) := by
  subst ht hsrc hdst hqr
  rw [todo_at hx]
  unfold free anyOf
  iintro ⟨#He, ⟨⟨%W, HO⟩, Ht, Hl⟩, Hs, ⟨⟨%X, Hd⟩, Hr⟩, Hy, Hz⟩ Hk
  imod (flight_alloc EC wN_pos (holds (slotM d (sl (h + 3))) c q (blk m d h c)) (g := (c.tc, .dma qs))) $$ Hz with ⟨%γ, %δ, %κ, #Hinv, Hγ, Hδ⟩
  unfold holds
  iapply (wp_enqueueDma_remote 𝒱₀ (c : Thread nD τ) none Set.univ (c' := (fwd d c : Thread nD τ)) (sS := .dma qs) (sem := .dma (rcvS d (sl h)))
    (src := slotM d (sl (h + 3))) (dst := slotM d (sl h)) (q := q) (fs := (slotM d (sl (h + 3))).view.rep (blk m d h c)) false (Site.rcv d h).idx 0
    (owed c (n + 1)) wN (slotM_credit d (sl h)) rfl
    (O₀ := owed c (n + 1) + tallyAt ((Site.rcv d h).cell (fwd d c)) (Site.rcv d h).idx wN) (W := W)
    (R := iprop(((slotM d (sl h)).view.loc (fwd d c).tc ↦[(slotM d (sl h)).view.set]{fullShare} (slotM d (sl h)).view.write (Elt F) ((slotM d (sl h)).view.rep X) ((slotM d (sl (h + 3))).view.read (Elt F) ((slotM d (sl (h + 3))).view.rep (blk m d h c))) Finset.univ)
      ∗ carry (F := F) d h c))) $$ [HO Hs Hd Hy] [Hγ] [Ht Hr]
  · isplitl [Hs]; · iexact Hs
    isplitl [Hd Hy]
    · iapply (writeUpdate_frame (fwd d c : Thread nD τ))
      isplitl [Hd]
      · iapply (pointsTo_writeUpdate (fwd d c : Thread nD τ) (v := (slotM d (sl h)).view) subset_rfl) $$ Hd
      iexact Hy
    iexact HO
  · iapply (flight_creditUpdate EC (δ := δ))
    isplitr; · iexact Hinv
    iexact Hγ
  · iapply (land_at m (mem_at hx) (fwd d c) rfl (send_lands m c d h X))
    isplitr; · iexact He
    isplitl [Ht]; · iexact Ht
    iexact Hr
  iintro ⟨Hc, HO⟩
  iapply Hk
  isplitl [HO Hl]
  · unfold todo
    isplitl [HO]; · iexists _; iexact HO
    iexact Hl
  iapply (flight_intro EC (c : Thread nD τ) (κ := κ))
  isplitr; · iexact Hinv
  isplitl [Hδ]; · iexact Hδ
  iexact Hc

end Steps

end Cert.Ring
-- ==== Proof.Mem.lean ====
/-
Buffers cut into pieces: what a piece holds in terms of the whole, in both directions, and the loads, stores and local
copies of a device on such pieces.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

section Pieces

variable {ms : Space} {s : Shape} {e : EltTy} (c : Dev nD) (q : PosShare TreeShare)

/-- A buffer's elements under a memref, at any contents, are what the memref reads there. -/
theorem points_holds (M : Memref sig .tc ms s e) (f : Buf (Elt F) (M.view.loc c.tc)) {X : Vec F s e} (hX : M.view.read (Elt F) f = X) :
    (M.view.loc c.tc ↦[M.view.set]{q} f : sProp 𝕄) = holds M c q X := by
  unfold holds
  refine pointsTo_congr fun i hi => ?_
  obtain ⟨x, -, rfl⟩ := Finset.mem_map.mp hi
  have h : M.view.read (Elt F) f x = M.view.read (Elt F) (M.view.rep X) x := by rw [hX, View.read_rep]
  exact (cast_inj _).mp h

/-- A squeezed memref holds the same elements under shorter indices. -/
theorem holds_squeeze (M : Memref sig .tc ms s e) (s' : Shape) (h : s.Squeezes s') (X : Vec F s e) :
    (holds M c q X : sProp 𝕄) = holds (M.squeeze s' h) c q (fun y => X (Shape.reshapeEquiv h.numel_eq y)) := by
  rw [← points_holds c q (M.squeeze s' h) (M.view.rep X) (by
    funext y
    exact congrFun (View.read_rep (v := M.view) X) (Shape.reshapeEquiv h.numel_eq y))]
  unfold holds
  rw [View.set_reshape]

/-- Contents forgotten, -/
theorem any_intro {M : Memref sig .tc ms s e} (W : Vec F s e) : (holds M c fullShare W : sProp 𝕄) ⊢ anyOf M c := by
  unfold anyOf
  iintro H
  iexists W
  iexact H

/-- and named. -/
theorem any_elim {M : Memref sig .tc ms s e} {P : sProp 𝕄} (h : ∀ W : Vec F s e, (holds M c fullShare W : sProp 𝕄) ⊢ P) :
    (anyOf M c : sProp 𝕄) ⊢ P := by
  unfold anyOf
  iintro ⟨%W, H⟩
  iapply (h W) $$ H

variable {ι : Type} [Fintype ι] [DecidableEq ι]

/-- A slice cut into slices: it holds `W` if each of them holds its part of `W`. -/
theorem holds_slices (B : Memref sig .tc ms s e) (r : Rect s) (hr : ∀ a, r.stride a = 1) (p : ι → Rect s)
    (hp : ∀ i a, (p i).stride a = 1) (g : ∀ i, (p i).shape.Idx → r.shape.Idx) (hg : ∀ i y, r.emb (g i y) = (p i).emb y)
    (hd : ∀ i j y z, g i y = g j z → i = j) (hc : ∀ x, ∃ i y, g i y = x) (W : Vec F r.shape e) :
    (holds (B.slice r hr) c q W : sProp 𝕄) = bigSep Finset.univ fun i => holds (B.slice (p i) (hp i)) c q (fun y => W (g i y)) := by
  have hset : (B.slice r hr).view.set = Finset.univ.biUnion fun i => (B.slice (p i) (hp i)).view.set := by
    ext x
    constructor
    · intro hx
      obtain ⟨y, -, rfl⟩ := Finset.mem_map.mp hx
      obtain ⟨i, w, rfl⟩ := hc y
      refine Finset.mem_biUnion.mpr ⟨i, Finset.mem_univ _, Finset.mem_map.mpr ⟨w, Finset.mem_univ _, ?_⟩⟩
      exact congrArg B.view.emb (hg i w).symm
    · intro hx
      obtain ⟨i, -, hx⟩ := Finset.mem_biUnion.mp hx
      obtain ⟨w, -, rfl⟩ := Finset.mem_map.mp hx
      exact Finset.mem_map.mpr ⟨g i w, Finset.mem_univ _, congrArg B.view.emb (hg i w)⟩
  have hdis : ∀ i ∈ (Finset.univ : Finset ι), ∀ j ∈ (Finset.univ : Finset ι), i ≠ j →
      Disjoint (B.slice (p i) (hp i)).view.set (B.slice (p j) (hp j)).view.set := by
    intro i _ j _ hij
    refine Finset.disjoint_left.mpr fun x hx hy => hij ?_
    obtain ⟨y, -, hy₁⟩ := Finset.mem_map.mp hx
    obtain ⟨w, -, hw₁⟩ := Finset.mem_map.mp hy
    have h : (p i).emb y = (p j).emb w := B.view.emb.injective (hy₁.trans hw₁.symm)
    exact hd i j y w (r.emb.injective (by rw [hg, hg, h]))
  show (B.view.loc c.tc ↦[(B.slice r hr).view.set]{q} (B.slice r hr).view.rep W : sProp 𝕄) = _
  rw [hset, pointsTo_biUnion _ _ hdis]
  refine bigSep_congr fun i _ => ?_
  exact points_holds c q (B.slice (p i) (hp i)) _ (by
    funext y
    have := congrFun (View.read_rep (v := (B.slice r hr).view) W) (g i y)
    rw [← this]
    show _root_.cast _ (_) = _root_.cast _ (_)
    congr 1
    exact congrArg _ (congrArg B.view.emb (hg i y).symm))

/-- A memref cut into slices. -/
theorem holds_whole (B : Memref sig .tc ms s e) (p : ι → Rect s)
    (hp : ∀ i a, (p i).stride a = 1) (hd : ∀ i j y z, (p i).emb y = (p j).emb z → i = j) (hc : ∀ x, ∃ i y, (p i).emb y = x) (W : Vec F s e) :
    (holds B c q W : sProp 𝕄) = bigSep Finset.univ fun i => holds (B.slice (p i) (hp i)) c q (fun y => W ((p i).emb y)) := by
  have hset : B.view.set = Finset.univ.biUnion fun i => (B.slice (p i) (hp i)).view.set := by
    ext x
    constructor
    · intro hx
      obtain ⟨y, -, rfl⟩ := Finset.mem_map.mp hx
      obtain ⟨i, w, rfl⟩ := hc y
      exact Finset.mem_biUnion.mpr ⟨i, Finset.mem_univ _, Finset.mem_map.mpr ⟨w, Finset.mem_univ _, rfl⟩⟩
    · intro hx
      obtain ⟨i, -, hx⟩ := Finset.mem_biUnion.mp hx
      obtain ⟨w, -, rfl⟩ := Finset.mem_map.mp hx
      exact Finset.mem_map.mpr ⟨(p i).emb w, Finset.mem_univ _, rfl⟩
  have hdis : ∀ i ∈ (Finset.univ : Finset ι), ∀ j ∈ (Finset.univ : Finset ι), i ≠ j →
      Disjoint (B.slice (p i) (hp i)).view.set (B.slice (p j) (hp j)).view.set := by
    intro i _ j _ hij
    refine Finset.disjoint_left.mpr fun x hx hy => hij ?_
    obtain ⟨y, -, hy₁⟩ := Finset.mem_map.mp hx
    obtain ⟨w, -, hw₁⟩ := Finset.mem_map.mp hy
    exact hd i j y w (B.view.emb.injective (hy₁.trans hw₁.symm))
  show (B.view.loc c.tc ↦[B.view.set]{q} B.view.rep W : sProp 𝕄) = _
  rw [hset, pointsTo_biUnion _ _ hdis]
  refine bigSep_congr fun i _ => ?_
  exact points_holds c q (B.slice (p i) (hp i)) _ (by
    funext y
    exact congrFun (View.read_rep (v := B.view) W) ((p i).emb y))

/-- Where every contents of `M` are the contents of its pieces, and pieces meet nowhere, `M` at any contents is its pieces
    at any contents. -/
theorem any_pieces {M : Memref sig .tc ms s e} {z : ι → Shape} (P : ∀ i, Memref sig .tc ms (z i) e) (g : ∀ i, (z i).Idx → s.Idx)
    (hg : ∀ i j y w, g i y = g j w → i = j) (hgi : ∀ i, Function.Injective (g i))
    (h : ∀ W : Vec F s e, (holds M c fullShare W : sProp 𝕄) = bigSep Finset.univ fun i => holds (P i) c fullShare (fun y => W (g i y))) :
    (anyOf M c : sProp 𝕄) = bigSep Finset.univ fun i => anyOf (F := F) (P i) c := by
  classical
  have h₁ : (anyOf M c : sProp 𝕄) ⊢ bigSep Finset.univ fun i => anyOf (F := F) (P i) c :=
    any_elim c fun W => by
      rw [h W]
      exact bigSep_mono fun i _ => any_intro c _
  have h₂ : (bigSep Finset.univ fun i => anyOf (F := F) (P i) c : sProp 𝕄) ⊢ anyOf M c := by
    refine BIBase.Entails.trans (bigSep_exists_pi Finset.univ fun i (X : Vec F (z i) e) => holds (F := F) (P i) c fullShare X) ?_
    iintro ⟨%X, H⟩
    let W : Vec F s e := fun x => if hx : ∃ i y, g i y = x then X hx.choose hx.choose_spec.choose else Classical.arbitrary _
    have hW : ∀ i, X i = fun y => W (g i y) := by
      intro i
      funext y
      have hx : ∃ j w, g j w = g i y := ⟨i, y, rfl⟩
      have key : ∀ j w, g j w = g i y → X j w = X i y := by
        intro j w hw
        obtain rfl := hg j i w y hw
        rw [hgi j hw]
      show _ = (if hx : ∃ j w, g j w = g i y then X hx.choose hx.choose_spec.choose else Classical.arbitrary _)
      rw [dif_pos hx]
      exact (key _ _ hx.choose_spec.choose_spec).symm
    iapply (any_intro c (M := M) W)
    rw [h W]
    iapply (Entails.of_eq (bigSep_congr fun i _ => by rw [hW i])) $$ H
  exact equiv_iff.mp ⟨h₁, h₂⟩

/-- Any contents, under a squeezed memref or not. -/
theorem any_squeeze (M : Memref sig .tc ms s e) (s' : Shape) (h : s.Squeezes s') : (anyOf M c : sProp 𝕄) = anyOf (F := F) (M.squeeze s' h) c := by
  refine equiv_iff.mp ⟨any_elim c fun W => ?_, any_elim c fun W => ?_⟩
  · rw [holds_squeeze c fullShare M s' h W]
    exact any_intro c _
  · have hW : W = fun y => (fun x => W ((Shape.reshapeEquiv h.numel_eq).symm x)) (Shape.reshapeEquiv h.numel_eq y) := by
      funext y; exact congrArg W (Equiv.symm_apply_apply _ y).symm
    rw [hW]
    exact BIBase.Entails.trans (Entails.of_eq (holds_squeeze c fullShare M s' h fun x => W ((Shape.reshapeEquiv h.numel_eq).symm x)).symm) (any_intro c _)

/-- A memref cut into `n` slices of width `w` along axis `a₀`, -/
theorem holds_cut (B : Memref sig .tc ms s e) (a₀ : Fin s.rank) (n w : ℕ) (hn : s.size a₀ = n * w) (off : Fin n → Fin s.rank → ℕ)
    (size : Fin s.rank → ℕ) (inb : ∀ i a, off i a + size a ≤ s.size a) (hoff : ∀ i a, off i a = if a = a₀ then i.val * w else 0)
    (hsz : ∀ a, size a = if a = a₀ then w else s.size a) :
    (∀ W : Vec F s e, (holds B c q W : sProp 𝕄) = bigSep Finset.univ fun i : Fin n =>
        holds (B.slice (Rect.unit (off i) size (inb i)) (fun _ => rfl)) c q (fun y => W ((Rect.unit (off i) size (inb i)).emb y)))
      ∧ (anyOf B c : sProp 𝕄) = bigSep Finset.univ fun i : Fin n => anyOf (F := F) (B.slice (Rect.unit (off i) size (inb i)) (fun _ => rfl)) c := by
  have hd : ∀ i j y z, (Rect.unit (s := s) (off i) size (inb i)).emb y = (Rect.unit (s := s) (off j) size (inb j)).emb z → i = j := by
    intro i j y z h
    have h := congrArg Fin.val (congrFun h a₀)
    simp only [Rect.emb_apply] at h
    change off i a₀ + 1 * (y a₀).val = off j a₀ + 1 * (z a₀).val at h
    have hy : (y a₀).val < size a₀ := (y a₀).isLt
    have hz : (z a₀).val < size a₀ := (z a₀).isLt
    rw [hoff, hoff, if_pos rfl, if_pos rfl] at h
    rw [hsz, if_pos rfl] at hy hz
    refine Fin.ext ?_
    rcases lt_trichotomy i.val j.val with hij | hij | hij
    · exfalso
      have := Nat.mul_le_mul_right w (show i.val + 1 ≤ j.val from hij)
      rw [Nat.add_mul] at this; omega
    · exact hij
    · exfalso
      have := Nat.mul_le_mul_right w (show j.val + 1 ≤ i.val from hij)
      rw [Nat.add_mul] at this; omega
  have hc : ∀ x : s.Idx, ∃ i y, (Rect.unit (s := s) (off i) size (inb i)).emb y = x := by
    intro x
    have hx : (x a₀).val < n * w := hn ▸ (x a₀).isLt
    have hw : 0 < w := Nat.pos_of_ne_zero fun h => by rw [h, Nat.mul_zero] at hx; omega
    refine ⟨⟨(x a₀).val / w, Nat.div_lt_of_lt_mul (by rw [Nat.mul_comm]; exact hx)⟩,
      fun a => ⟨if a = a₀ then (x a).val % w else (x a).val, ?_⟩, ?_⟩
    · show _ < size a
      rw [hsz]
      split
      · exact Nat.mod_lt _ hw
      · exact (x a).isLt
    · refine funext fun a => Fin.ext ?_
      show off _ a + 1 * (if a = a₀ then (x a).val % w else (x a).val) = (x a).val
      rw [hoff, Nat.one_mul]
      by_cases ha : a = a₀
      · subst ha
        rw [if_pos rfl, if_pos rfl]
        exact Nat.div_add_mod' _ _
      · rw [if_neg ha, if_neg ha, Nat.zero_add]
  refine ⟨holds_whole c q B _ (fun _ _ => rfl) hd hc, ?_⟩
  exact any_pieces c _ _ hd (fun i => (Rect.unit (s := s) (off i) size (inb i)).emb.injective)
    (holds_whole c fullShare B _ (fun _ _ => rfl) hd hc)

/-- The index of a slice's element within a larger slice. -/
def within {rk : ℕ} {off size off' size' : Fin rk → ℕ} (h : ∀ a, off a ≤ off' a ∧ off' a + size' a ≤ off a + size a) :
    (⟨rk, size'⟩ : Shape).Idx → (⟨rk, size⟩ : Shape).Idx :=
  fun y a => ⟨off' a - off a + (y a).val, by
    have := h a
    have hy : (y a).val < size' a := (y a).isLt
    show _ < size a
    omega⟩

/-- and a slice cut so. -/
theorem holds_cut_slice (B : Memref sig .tc ms s e) (off₀ size₀ : Fin s.rank → ℕ) (inb₀ : ∀ a, off₀ a + size₀ a ≤ s.size a)
    (a₀ : Fin s.rank) (n w : ℕ) (hn : size₀ a₀ = n * w) (off : Fin n → Fin s.rank → ℕ)
    (size : Fin s.rank → ℕ) (inb : ∀ i a, off i a + size a ≤ s.size a) (hoff : ∀ i a, off i a = off₀ a + if a = a₀ then i.val * w else 0)
    (hsz : ∀ a, size a = if a = a₀ then w else size₀ a) (hin : ∀ i a, off₀ a ≤ off i a ∧ off i a + size a ≤ off₀ a + size₀ a) :
    (∀ W : Vec F ⟨s.rank, size₀⟩ e, (holds (B.slice (Rect.unit off₀ size₀ inb₀) (fun _ => rfl)) c q W : sProp 𝕄) = bigSep Finset.univ fun i : Fin n =>
        holds (B.slice (Rect.unit (off i) size (inb i)) (fun _ => rfl)) c q (fun y => W (within (hin i) y)))
      ∧ (anyOf (B.slice (Rect.unit off₀ size₀ inb₀) (fun _ => rfl)) c : sProp 𝕄)
          = bigSep Finset.univ fun i : Fin n => anyOf (F := F) (B.slice (Rect.unit (off i) size (inb i)) (fun _ => rfl)) c := by
  have hg : ∀ i y, (Rect.unit (s := s) off₀ size₀ inb₀).emb (within (hin i) y) = (Rect.unit (s := s) (off i) size (inb i)).emb y := by
    intro i y
    refine funext fun a => Fin.ext ?_
    show off₀ a + 1 * (off i a - off₀ a + (y a).val) = off i a + 1 * (y a).val
    have := hin i a
    omega
  have hd : ∀ i j (y : (⟨s.rank, size⟩ : Shape).Idx) (z : (⟨s.rank, size⟩ : Shape).Idx), within (hin i) y = within (hin j) z → i = j := by
    intro i j y z h
    have h := congrArg Fin.val (congrFun h a₀)
    change off i a₀ - off₀ a₀ + (y a₀).val = off j a₀ - off₀ a₀ + (z a₀).val at h
    have hy : (y a₀).val < size a₀ := (y a₀).isLt
    have hz : (z a₀).val < size a₀ := (z a₀).isLt
    rw [hoff, hoff, if_pos rfl, if_pos rfl] at h
    rw [hsz, if_pos rfl] at hy hz
    refine Fin.ext ?_
    rcases lt_trichotomy i.val j.val with hij | hij | hij
    · exfalso
      have := Nat.mul_le_mul_right w (show i.val + 1 ≤ j.val from hij)
      rw [Nat.add_mul] at this; omega
    · exact hij
    · exfalso
      have := Nat.mul_le_mul_right w (show j.val + 1 ≤ i.val from hij)
      rw [Nat.add_mul] at this; omega
  have hinj : ∀ i, Function.Injective (within (hin i)) := by
    intro i y z h
    refine funext fun a => Fin.ext ?_
    have h := congrArg Fin.val (congrFun h a)
    change off i a - off₀ a + (y a).val = off i a - off₀ a + (z a).val at h
    omega
  have hc : ∀ x : (⟨s.rank, size₀⟩ : Shape).Idx, ∃ i, ∃ y : (⟨s.rank, size⟩ : Shape).Idx, within (hin i) y = x := by
    intro x
    have hx : (x a₀).val < n * w := hn ▸ (x a₀).isLt
    have hw : 0 < w := Nat.pos_of_ne_zero fun h => by rw [h, Nat.mul_zero] at hx; omega
    refine ⟨⟨(x a₀).val / w, Nat.div_lt_of_lt_mul (by rw [Nat.mul_comm]; exact hx)⟩,
      fun a => ⟨if a = a₀ then (x a).val % w else (x a).val, ?_⟩, ?_⟩
    · show _ < size a
      rw [hsz]
      split
      · exact Nat.mod_lt _ hw
      · exact (x a).isLt
    · refine funext fun a => Fin.ext ?_
      show off _ a - off₀ a + (if a = a₀ then (x a).val % w else (x a).val) = (x a).val
      rw [hoff, Nat.add_sub_cancel_left]
      by_cases ha : a = a₀
      · subst ha
        rw [if_pos rfl, if_pos rfl]
        exact Nat.div_add_mod' _ _
      · rw [if_neg ha, if_neg ha, Nat.zero_add]
  refine ⟨holds_slices c q B (Rect.unit off₀ size₀ inb₀) (fun _ => rfl) (fun i => Rect.unit (off i) size (inb i)) (fun _ _ => rfl)
    (fun i => within (hin i)) hg hd hc, ?_⟩
  exact any_pieces c (fun i => B.slice (Rect.unit (off i) size (inb i)) (fun _ => rfl)) (fun i => within (hin i)) hd hinj
    (holds_slices c fullShare B (Rect.unit off₀ size₀ inb₀) (fun _ => rfl) (fun i => Rect.unit (off i) size (inb i)) (fun _ _ => rfl)
      (fun i => within (hin i)) hg hd hc)

end Pieces

end Cert.Ring
-- ==== Proof.Pieces.lean ====
/-
The pieces the kernel works on: the four slots of each direction's ring buffer, the four quarters of the buffer the
blocks are staged in, the four halves of the buffer of results, and the sixteen blocks of the output.
-/
module

public import proofs.«01_k».proof.Proof.Mem
public import Idealize.ShloMosaic.Lib.ValueLayout

@[expose] public section

noncomputable section

namespace Cert.Ring

open Cert.KernelIdeal Cert.KernelIdeal.Gen

open Idealize.ShloMosaic
open Idealize.ShloMosaic.TcCoe
open Idealize.ShloMosaic.ValueIdx (ix2 ix3 ix4 eq_ix2 reshapeEquiv_ix2_1ab reshapeEquiv_ix2_11ab)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

/-! ## Their names -/

/-- Quarter `k` of row `i` of the staging buffer: row `i` is one hop's, quarter 0 the one that came along direction
    `true`, quarter 1 the other. -/
def cmpM (i k : Fin 2) : Memref sig .tc .vmem S1024x512 .bf16 :=
  ((Memref.whole cc0_scratch2).slice (Rect.unit (s := S2x2x1024x512) ![i.val, k.val, 0, 0] S1x1x1024x512.size
    (by revert i k; decide)) (fun _ => rfl)).squeeze S1024x512 squeezes_S1x1x1024x512_S1024x512
/-- Row `i` whole. -/
def cmpRow (i : Fin 2) : Memref sig .tc .vmem S1x2x1024x512 .bf16 :=
  (Memref.whole cc0_scratch2).slice (Rect.unit (s := S2x2x1024x512) ![i.val, 0, 0, 0] S1x2x1024x512.size (by revert i; decide)) (fun _ => rfl)
/-- Half `b` of row `i` of the results, -/
def resM (i b : Fin 2) : Memref sig .tc .vmem S1024x1024 .f32 :=
  ((Memref.whole cc0_scratch7).slice (Rect.unit (s := S2x2048x1024) ![i.val, b.val * 1024, 0] S1x1024x1024.size
    (by revert i b; decide)) (fun _ => rfl)).squeeze S1024x1024 squeezes_S1x1024x1024_S1024x1024
/-- and the row whole. -/
def resRow (i : Fin 2) : Memref sig .tc .vmem S1x2048x1024 .f32 :=
  (Memref.whole cc0_scratch7).slice (Rect.unit (s := S2x2048x1024) ![i.val, 0, 0] S1x2048x1024.size (by revert i; decide)) (fun _ => rfl)
/-- The output's block of rows `o * 1024` on. -/
def outM (o : Fin 16) : Memref sig .tc .hbm S1024x1024 .f32 :=
  (Memref.whole main_v1).slice (Rect.unit (s := S16384x1024) ![o.val * 1024, 0] S1024x1024.size (by revert o; decide)) (fun _ => rfl)

/-- What an output block weighs on a DMA semaphore. -/
def wO : ℕ := (outM 0).view.dmaCredit
theorem wO_pos : 0 < wO := by decide
theorem outM_credit (o : Fin 16) : (outM o).view.dmaCredit = wO := rfl
theorem cmpM_credit (i k : Fin 2) : (cmpM i k).view.dmaCredit = wN := rfl

section Cuts
variable (c : Dev nD) (q : PosShare TreeShare)

/-! ## The ring buffers -/

/-- A ring buffer at any contents is its slots at any contents. -/
theorem cw_any : (anyOf (Memref.whole cc0_scratch0) c : sProp 𝕄)
    = iprop(anyOf (F := F) (slotM true 0) c ∗ anyOf (F := F) (slotM true 1) c ∗ anyOf (F := F) (slotM true 2) c ∗ anyOf (F := F) (slotM true 3) c) := by
  rw [(holds_cut c fullShare (Memref.whole cc0_scratch0) (s := S4x1024x512) 0 4 1 rfl (fun i => ![i.val, 0, 0]) S1x1024x512.size (by decide) (by decide) (by decide)).2,
    bigSep_univ_eq_bigSepL [(0 : Fin 4), 1, 2, 3] (by decide) (by decide)]
  simp only [any_squeeze c _ S1024x512 squeezes_S1x1024x512_S1024x512]
  rfl

theorem ccw_any : (anyOf (Memref.whole cc0_scratch1) c : sProp 𝕄)
    = iprop(anyOf (F := F) (slotM false 0) c ∗ anyOf (F := F) (slotM false 1) c ∗ anyOf (F := F) (slotM false 2) c ∗ anyOf (F := F) (slotM false 3) c) := by
  rw [(holds_cut c fullShare (Memref.whole cc0_scratch1) (s := S4x1024x512) 0 4 1 rfl (fun i => ![i.val, 0, 0]) S1x1024x512.size (by decide) (by decide) (by decide)).2,
    bigSep_univ_eq_bigSepL [(0 : Fin 4), 1, 2, 3] (by decide) (by decide)]
  simp only [any_squeeze c _ S1024x512 squeezes_S1x1024x512_S1024x512]
  rfl

/-! ## The staging buffer -/

theorem cmp_inb (i : Fin 2) (k : Fin 2) : ∀ a, (![i.val, k.val, 0, 0] : Fin 4 → ℕ) a + S1x1x1024x512.size a ≤ S2x2x1024x512.size a := by
  revert i k; decide
theorem cmp_in (i : Fin 2) (k : Fin 2) : ∀ a, (![i.val, 0, 0, 0] : Fin 4 → ℕ) a ≤ (![i.val, k.val, 0, 0] : Fin 4 → ℕ) a
    ∧ (![i.val, k.val, 0, 0] : Fin 4 → ℕ) a + S1x1x1024x512.size a ≤ (![i.val, 0, 0, 0] : Fin 4 → ℕ) a + S1x2x1024x512.size a := by
  revert i k; decide

/-- A row at any contents is its quarters at any contents, -/
theorem cmpRow_any (i : Fin 2) : (anyOf (cmpRow i) c : sProp 𝕄) = iprop(anyOf (F := F) (cmpM i 0) c ∗ anyOf (F := F) (cmpM i 1) c) := by
  refine (holds_cut_slice (F := F) c fullShare (Memref.whole cc0_scratch2) (s := S2x2x1024x512) ![i.val, 0, 0, 0] S1x2x1024x512.size (by revert i; decide)
      1 2 1 rfl (fun k => ![i.val, k.val, 0, 0]) S1x1x1024x512.size (cmp_inb i) (by revert i; decide) (by decide) (cmp_in i)).2.trans ?_
  rw [bigSep_univ_eq_bigSepL [(0 : Fin 2), 1] (by decide) (by decide)]
  simp only [any_squeeze c _ S1024x512 squeezes_S1x1x1024x512_S1024x512]
  rfl

/-- Two blocks, one above the other. -/
def pair (X Y : Vec F S1024x512 .bf16) : Vec F S1x2x1024x512 .bf16 :=
  fun i => if (i 1).val = 0 then X (ix2 (i 2 : Fin 1024) (i 3 : Fin 512)) else Y (ix2 (i 2 : Fin 1024) (i 3 : Fin 512))

/-- and it holds two blocks if its quarters hold one each. -/
theorem cmpRow_holds (i : Fin 2) (X Y : Vec F S1024x512 .bf16) :
    (holds (cmpRow i) c q (pair X Y) : sProp 𝕄) = iprop(holds (cmpM i 0) c q X ∗ holds (cmpM i 1) c q Y) := by
  refine ((holds_cut_slice (F := F) c q (Memref.whole cc0_scratch2) (s := S2x2x1024x512) ![i.val, 0, 0, 0] S1x2x1024x512.size (by revert i; decide)
      1 2 1 rfl (fun k => ![i.val, k.val, 0, 0]) S1x1x1024x512.size (cmp_inb i) (by revert i; decide) (by decide) (cmp_in i)).1 (pair X Y)).trans ?_
  rw [bigSep_univ_eq_bigSepL [(0 : Fin 2), 1] (by decide) (by decide)]
  simp only [holds_squeeze c q _ S1024x512 squeezes_S1x1x1024x512_S1024x512]
  refine congrArg₂ (fun A B : sProp 𝕄 => iprop(A ∗ B)) (congrArg (holds (cmpM i 0) c q) (funext fun y => ?_))
    (congrArg (holds (cmpM i 1) c q) (funext fun y => ?_))
  · obtain ⟨a, b, rfl⟩ : ∃ a b, y = ix2 a b := ⟨_, _, eq_ix2 y⟩
    rw [reshapeEquiv_ix2_11ab]
    refine (if_pos rfl).trans (congrArg X (funext fun k => Fin.ext ?_))
    revert k
    exact Fin.forall_fin_two.mpr ⟨Nat.zero_add _, Nat.zero_add _⟩
  · obtain ⟨a, b, rfl⟩ : ∃ a b, y = ix2 a b := ⟨_, _, eq_ix2 y⟩
    rw [reshapeEquiv_ix2_11ab]
    refine (if_neg (show ¬ ((1 : ℕ) - 0 + 0 = 0) by decide)).trans (congrArg Y (funext fun k => Fin.ext ?_))
    revert k
    exact Fin.forall_fin_two.mpr ⟨Nat.zero_add _, Nat.zero_add _⟩

/-- The staging buffer at any contents is its rows at any contents. -/
theorem cmp_any : (anyOf (Memref.whole cc0_scratch2) c : sProp 𝕄) = iprop(anyOf (F := F) (cmpRow 0) c ∗ anyOf (F := F) (cmpRow 1) c) := by
  rw [(holds_cut c fullShare (Memref.whole cc0_scratch2) (s := S2x2x1024x512) 0 2 1 rfl (fun i => ![i.val, 0, 0, 0]) S1x2x1024x512.size (by decide) (by decide) (by decide)).2,
    bigSep_univ_eq_bigSepL [(0 : Fin 2), 1] (by decide) (by decide)]
  rfl

/-! ## The results -/

theorem res_inb (i : Fin 2) (b : Fin 2) : ∀ a, (![i.val, b.val * 1024, 0] : Fin 3 → ℕ) a + S1x1024x1024.size a ≤ S2x2048x1024.size a := by
  revert i b; decide
theorem res_in (i : Fin 2) (b : Fin 2) : ∀ a, (![i.val, 0, 0] : Fin 3 → ℕ) a ≤ (![i.val, b.val * 1024, 0] : Fin 3 → ℕ) a
    ∧ (![i.val, b.val * 1024, 0] : Fin 3 → ℕ) a + S1x1024x1024.size a ≤ (![i.val, 0, 0] : Fin 3 → ℕ) a + S1x2048x1024.size a := by
  revert i b; decide

theorem resRow_any (i : Fin 2) : (anyOf (resRow i) c : sProp 𝕄) = iprop(anyOf (F := F) (resM i 0) c ∗ anyOf (F := F) (resM i 1) c) := by
  refine (holds_cut_slice (F := F) c fullShare (Memref.whole cc0_scratch7) (s := S2x2048x1024) ![i.val, 0, 0] S1x2048x1024.size (by revert i; decide)
      1 2 1024 rfl (fun b => ![i.val, b.val * 1024, 0]) S1x1024x1024.size (res_inb i) (by revert i; decide) (by decide) (res_in i)).2.trans ?_
  rw [bigSep_univ_eq_bigSepL [(0 : Fin 2), 1] (by decide) (by decide)]
  simp only [any_squeeze c _ S1024x1024 squeezes_S1x1024x1024_S1024x1024]
  rfl

/-- Half `b` of a row's contents: its rows from `b * 1024` on. -/
def half (b : Fin 2) (W : Vec F S1x2048x1024 .f32) : Vec F S1024x1024 .f32 :=
  fun y => W (ix3 (0 : Fin 1) (⟨b.val * 1024 + (y 0).val, by have : (y 0).val < 1024 := (y 0).isLt; have := b.isLt; omega⟩ : Fin 2048) (y 1 : Fin 1024))

theorem resRow_holds (i : Fin 2) (W : Vec F S1x2048x1024 .f32) :
    (holds (resRow i) c q W : sProp 𝕄) = iprop(holds (resM i 0) c q (half 0 W) ∗ holds (resM i 1) c q (half 1 W)) := by
  refine ((holds_cut_slice (F := F) c q (Memref.whole cc0_scratch7) (s := S2x2048x1024) ![i.val, 0, 0] S1x2048x1024.size (by revert i; decide)
      1 2 1024 rfl (fun b => ![i.val, b.val * 1024, 0]) S1x1024x1024.size (res_inb i) (by revert i; decide) (by decide) (res_in i)).1 W).trans ?_
  rw [bigSep_univ_eq_bigSepL [(0 : Fin 2), 1] (by decide) (by decide)]
  simp only [holds_squeeze c q _ S1024x1024 squeezes_S1x1024x1024_S1024x1024]
  refine congrArg₂ (fun A B : sProp 𝕄 => iprop(A ∗ B)) (congrArg (holds (resM i 0) c q) (funext fun y => ?_))
    (congrArg (holds (resM i 1) c q) (funext fun y => ?_))
  all_goals
    obtain ⟨a, b, rfl⟩ : ∃ a b, y = ix2 a b := ⟨_, _, eq_ix2 y⟩
    rw [reshapeEquiv_ix2_1ab]
    refine congrArg W (funext fun k => Fin.ext ?_)
    revert k
    refine Fin.forall_fin_succ.mpr ⟨?_, Fin.forall_fin_two.mpr ⟨?_, ?_⟩⟩
    · show i.val - i.val + 0 = 0
      omega
    · rfl
    · exact Nat.zero_add _

theorem res_any : (anyOf (Memref.whole cc0_scratch7) c : sProp 𝕄) = iprop(anyOf (F := F) (resRow 0) c ∗ anyOf (F := F) (resRow 1) c) := by
  rw [(holds_cut c fullShare (Memref.whole cc0_scratch7) (s := S2x2048x1024) 0 2 1 rfl (fun i => ![i.val, 0, 0]) S1x2048x1024.size (by decide) (by decide) (by decide)).2,
    bigSep_univ_eq_bigSepL [(0 : Fin 2), 1] (by decide) (by decide)]
  rfl

/-! ## The output -/

theorem out_any : (anyOf (Memref.whole main_v1) c : sProp 𝕄) = bigSep Finset.univ fun o : Fin 16 => anyOf (F := F) (outM o) c :=
  (holds_cut (F := F) c fullShare (Memref.whole main_v1) (s := S16384x1024) 0 16 1024 rfl (fun o => ![o.val * 1024, 0]) S1024x1024.size
      (by decide) (by decide) (by decide)).2

/-- Block `o` of an output. -/
def outBlock (o : Fin 16) (W : Vec F S16384x1024 .f32) : Vec F S1024x1024 .f32 :=
  fun y => W (ix2 (⟨o.val * 1024 + (y 0).val, by have : (y 0).val < 1024 := (y 0).isLt; have := o.isLt; omega⟩ : Fin 16384) (y 1 : Fin 1024))

theorem out_holds (W : Vec F S16384x1024 .f32) :
    (holds (Memref.whole main_v1) c q W : sProp 𝕄) = bigSep Finset.univ fun o : Fin 16 => holds (outM o) c q (outBlock o W) := by
  refine ((holds_cut (F := F) c q (Memref.whole main_v1) (s := S16384x1024) 0 16 1024 rfl (fun o => ![o.val * 1024, 0]) S1024x1024.size
      (by decide) (by decide) (by decide)).1 W).trans (bigSep_congr fun o _ => ?_)
  refine congrArg (holds (outM o) c q) (funext fun y => congrArg W (funext fun a => Fin.ext ?_))
  revert a
  refine Fin.forall_fin_two.mpr ⟨?_, ?_⟩
  · show o.val * 1024 + 1 * (y 0).val = o.val * 1024 + (y 0).val
    omega
  · show 0 + 1 * (y 1).val = (y 1).val
    omega

end Cuts

end Cert.Ring
-- ==== Proof.Moves.lean ====
/-
The steps once more in the form the run of the body uses them in, with the loads, the stores and the copies within a
device.
-/
module

public import proofs.«01_k».proof.Proof.Pieces

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-- Device `c` with its first `n` payments made, among the records every device has. -/
def on (K : GSem nD τ sig → ℕ) (c : Dev nD) (n : ℕ) : sProp 𝕄 := iprop(env m K ∗ todo c n)

variable {K : GSem nD τ sig → ℕ} (c : Dev nD)

/-! ## Halves of a block, and what is forgotten -/

section Halves
variable {ms : Space} {s : Shape} {e : EltTy}

/-- A block held whole is held as two halves, -/
theorem halves (M : Memref sig .tc ms s e) (X : Vec F s e) :
    (holds M c fullShare X : sProp 𝕄) ⊢ iprop(holds M c fullShare.left X ∗ holds M c fullShare.right X) :=
  (pointsTo_share (PosShare.mem_left_op_right fullShare)).1

/-- and the halves make the whole, -/
theorem whole_of_halves (M : Memref sig .tc ms s e) (X : Vec F s e) :
    iprop(holds M c fullShare.left X ∗ holds M c fullShare.right X) ⊢ (holds M c fullShare X : sProp 𝕄) :=
  (pointsTo_share (PosShare.mem_left_op_right fullShare)).2

/-- whatever it holds. -/
theorem rejoin (M : Memref sig .tc ms s e) (X : Vec F s e) :
    (holds M c fullShare.left X : sProp 𝕄) ⊢ iprop(holds M c fullShare.right X -∗ anyOf M c) := by
  iintro Hl Hr
  iapply (any_intro c X)
  iapply (whole_of_halves c M X)
  isplitl [Hl]; · iexact Hl
  iexact Hr

/-- A memref read through a rectangle that is all of it. -/
theorem full_slice (q : PosShare TreeShare) (M : Memref sig .tc ms s e) (off : Fin s.rank → ℕ) (hoff : ∀ a, off a = 0)
    (inb : ∀ a, off a + s.size a ≤ s.size a) (X : Vec F s e) :
    (holds M c q X : sProp 𝕄) = holds (M.slice (Rect.unit (s := s) off s.size inb) (fun _ => rfl)) c q X := by
  have he : ∀ y : s.Idx, (Rect.unit (s := s) off s.size inb).emb y = y := fun y => funext fun a => Fin.ext (by
    show off a + 1 * (y a).val = (y a).val
    rw [hoff]; omega)
  refine (holds_whole c q M (fun _ : Fin 1 => Rect.unit (s := s) off s.size inb) (fun _ _ => rfl) (fun i j _ _ _ => Subsingleton.elim i j)
    (fun x => ⟨0, x, he x⟩) X).trans ?_
  rw [bigSep_univ_eq_bigSepL [(0 : Fin 1)] (by decide) (by decide)]
  show holds (M.slice (Rect.unit (s := s) off s.size inb) (fun _ => rfl)) c q (fun y => X ((Rect.unit (s := s) off s.size inb).emb y)) = _
  exact congrArg _ (funext fun y => congrArg X (he y))

end Halves

/-! ## Loads and stores -/

section Memory
variable {cs : CoreSpace} {s : Shape} {e : EltTy}

/-- A load through a rectangle reads what its slice holds. -/
theorem go_load {M : Memref sig .tc cs s e} {r : Rect s} {hl : M.view.LoadsAt r.toLoadRect} (N : Memref sig .tc cs r.shape e) (hr : ∀ a, r.stride a = 1)
    (hN : M.slice r hr = N) {q : PosShare TreeShare} {X : Vec F r.shape e} {α : Type} {Q : α → sProp 𝕄} {k : Vec F r.shape e → Prog (TpuEff nD τ sig (Elt F) Λ₀ .tc) α} :
    (holds N c q X : sProp 𝕄) ⊢ iprop((holds N c q X -∗ run c (k X) Q) -∗ run c (.op (.load M r.toLoadRect hl) k) Q) := by
  subst hN
  have h := wp_load_rect (defs := defs₀ (F := F)) 𝒱₀ (c : Thread nD τ) none Set.univ (m := M) (r := r) (hl := hl) (k := k) (Q := Q)
    (S := (M.access r).set) (q := q) (f := (M.access r).rep X) (Γ := .empty) subset_rfl
  rw [View.read_rep] at h
  exact h

/-- A store through a rectangle, after a load of the same whose value is not used. -/
theorem go_store {M : Memref sig .tc cs s e} {r : Rect s} {hl : M.view.LoadsAt r.toLoadRect} (N : Memref sig .tc cs r.shape e) (hr : ∀ a, r.stride a = 1)
    (hN : M.slice r hr = N) {w : Vec F r.shape e} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (anyOf N c : sProp 𝕄) ⊢ iprop((holds N c fullShare w -∗ run c (k ⟨⟩) Q)
      -∗ run c (.op (.load M r.toLoadRect hl) fun _ => .op (.store M r w Finset.univ hx hm) k) Q) := by
  refine any_elim c fun X => ?_
  iintro H Hk
  iapply (go_load c N hr hN) $$ H
  iintro H
  subst hN
  ihave H := (show (holds (M.slice r hr) c fullShare X : sProp 𝕄) ⊢ ((M.access r).loc c.tc ↦[(M.access r).set]{fullShare} (M.access r).rep X) from .rfl) $$ H
  iapply (wp_store 𝒱₀ (c : Thread nD τ) none Set.univ (m := M) (r := r) (hx := hx) (S := (M.access r).set) (f := (M.access r).rep X) (Γ := .empty) (show (M.access r).setOn Finset.univ ⊆ (M.access r).set from subset_rfl)) $$ H
  iintro H
  iapply Hk
  iapply (Entails.of_eq (points_holds c fullShare (M.slice r hr) _ (View.read_write_univ _ _))) $$ H

end Memory

/-! ## Copies within a device -/

section Copies

/-- A copy started: its wait brings the destination holding the block, and the source back. -/
theorem go_copy {ms ms' : Space} {s : Shape} {e : EltTy} {src : Memref sig .tc ms s e} (S : Memref sig .tc ms s e) (hS : src = S)
    {dst : Memref sig .tc ms' s e} (D : Memref sig .tc ms' s e) (hD : dst = D) {qs : DmaSem sig} (q' : DmaSem sig) (hq : qs = q')
    (N : ℕ) (hN : D.view.dmaCredit = N) (hN0 : 0 < N)
    {w : src.view.WordExact} {w' : dst.view.WordExact} {hsem : DmaTarget.Typed ms (.dma qs) (DmaTarget.here (nD := nD) (τ := τ) (p := .tc) dst)}
    {α : Type} {Q : α → sProp 𝕄} {k : PUnit → Prog (TpuEff nD τ sig (Elt F) Λ₀ .tc) α} {q : PosShare TreeShare} {X : Vec F s e} :
    (holds S c q X : sProp 𝕄) ⊢ iprop(anyOf D c -∗ semVal (c.tc, .dma q') 0
      -∗ (flight c q' N iprop(holds D c fullShare X ∗ holds S c q X) -∗ run c (k ⟨⟩) Q)
      -∗ run c (.op (.enqueueDma src (.here dst) (.dma qs) w w' hsem) k) Q) := by
  subst hS hD hq
  unfold anyOf
  iintro Hs ⟨%Y, Hd⟩ Hz Hk
  unfold holds
  iapply (wp_dmaLocal EC 𝒱₀ (c : Thread nD τ) none (Sd := dst.view.set) (fs := src.view.rep X) (fd := dst.view.rep Y) 0 N (show dst.view.amount (.dma qs) = N from hN) hN0 subset_rfl) $$ [Hs Hd Hz]
  · isplitl [Hs]; · iexact Hs
    isplitl [Hd]; · iexact Hd
    iexact Hz
  iintro Hf
  iapply Hk
  iapply (Flight_mono EC (c : Thread nD τ) (BIClass.sep_mono (Entails.of_eq (points_holds c fullShare dst _ (by
    rw [View.read_write_univ]; exact View.read_rep (v := src.view) X))) (Entails.of_eq rfl))) $$ Hf

/-- The wait for it. -/
theorem go_wait {n : ℕ} {qs : DmaSem sig} (q' : DmaSem sig) (hq : qs = q') {ms ms' : Space} {s s' : Shape} {e e' : EltTy}
    {src : Memref sig .tc ms s e} {dst : Memref sig .tc ms' s' e'} (T : Memref sig .tc ms' s' e') (hT : dst = T)
    {w : src.view.WordExact} {w' : dst.view.WordExact} (N : ℕ) (hN : T.view.dmaCredit = N)
    {D : sProp 𝕄} {α : Type} {Q : α → sProp 𝕄} {k : PUnit → Prog (TpuEff nD τ sig (Elt F) Λ₀ .tc) α} :
    on m K c n ⊢ iprop(flight c q' N D -∗ (iprop(on m K c n ∗ D ∗ semVal (c.tc, .dma q') 0) -∗ run c (k ⟨⟩) Q)
      -∗ run c (.op (.waitDma2 qs src dst w w') k) Q) := by
  subst hq hT
  unfold on
  iintro ⟨#He, Ht⟩ Hf Hk
  iapply (run_wait (K := K) m c n hN) $$ [Ht Hf]
  · isplitr; · iexact He
    isplitl [Ht]; · iexact Ht
    iexact Hf
  iintro ⟨Ht, H⟩
  iapply Hk
  isplitl [Ht]
  · isplitr; · iexact He
    iexact Ht
  iexact H

end Copies

/-- A program at its end. -/
theorem go_ret {α : Type} {Q : α → sProp 𝕄} (x : α) : Q x ⊢ run (F := F) c (.ret x) Q := by
  unfold run
  rw [wp_ret]
  iintro H
  imodintro
  iexact H

/-- A device's question for its own number. -/
theorem go_device {α : Type} {Q : α → sProp 𝕄} {k : Dev nD → Prog (TpuEff nD τ sig (Elt F) Λ₀ .tc) α} :
    run c (k c) Q ⊢ run (F := F) c (.op .deviceId k) Q := by
  unfold run
  simp only [wp_deviceId]
  exact .rfl

/-! ## The protocol's steps -/

section Protocol

/-- Every payment's cell has its round 0 reached. -/
theorem on_reached {n : ℕ} {x : Site} (hx : x ∈ sites) : on m K c n ⊢ iprop(on m K c n ∗ reached ER (x.cell c) 0) := by
  unfold on
  iintro ⟨#He, Ht⟩
  isplitl [Ht]
  · isplitr; · iexact He
    iexact Ht
  iapply (env_reached m hx c); iexact He

theorem pay_bar (d : Bool) (c : Dev nD) : pay m (.bar d) c
    = iprop(free (F := F) (!d) 0 (fwd (!d) c) ∗ free (F := F) (!d) 1 (fwd (!d) c) ∗ free (F := F) (!d) 2 (fwd (!d) c)) := rfl

/-- The word to a neighbour that the kernel is entered, with the leave for the first three slots it will write. -/
theorem go_enter {n : ℕ} (d d' : Bool) (hd : (!d) = d') (hx : sites[n]? = some (.bar d)) {q : Sem sig} (hs : barS = q) {u : ℕ} (hu : (Site.bar d).units = u)
    {t : Dev nD} (ht : t = fwd d c) {α : Type} {Q : α → sProp 𝕄} {k : PUnit → Prog (TpuEff nD τ sig (Elt F) Λ₀ .tc) α} :
    on m K c n ⊢ iprop(anyOf (F := F) (slotM d' (sl 0)) c -∗ anyOf (F := F) (slotM d' (sl 1)) c -∗ anyOf (F := F) (slotM d' (sl 2)) c
      -∗ (on m K c (n + 1) -∗ run c (k ⟨⟩) Q) -∗ run c (.op (.semSignal (t : Thread nD τ) q u) k) Q) := by
  subst hd ht
  have hc : fwd (!d) (fwd d c) = c := fwd_not_fwd d c
  have hm (h : ℕ) (hh : h < 3) : env m K ⊢ reached ER ((Site.rcv (!d) h).cell c) (h / 4) := by
    rw [Nat.div_eq_of_lt (by omega)]
    exact env_reached m (site_rcv_mem (!d) h (lt_of_lt_of_le (by omega : h < 7) (by cases d <;> decide))) c
  unfold on
  iintro ⟨#He, Ht⟩ H0 H1 H2 Hk
  iapply (run_signal (K := K) m c hx (q := q) (congrArg SemLoc.reg hs) rfl hu rfl) $$ [Ht H0 H1 H2]
  · isplitr; · iexact He
    isplitl [Ht]; · iexact Ht
    rw [show (Site.bar d).tgt c = fwd d c from rfl]
    rw [pay_bar]
    unfold free
    rw [hc]
    isplitl [H0]
    · isplitl [H0]; · iexact H0
      iapply (hm 0 (by omega)); iexact He
    isplitl [H1]
    · isplitl [H1]; · iexact H1
      iapply (hm 1 (by omega)); iexact He
    isplitl [H2]; · iexact H2
    iapply (hm 2 (by omega)); iexact He
  iintro Ht
  iapply Hk
  isplitr; · iexact He
  iexact Ht

/-- The wait for the same word of both neighbours: it brings the leave for the first three slots of each. -/
theorem go_barrier {q : Sem sig} (hq : q = barS) {u : ℕ} (hu : u = 2) {α : Type} {Q : α → sProp 𝕄} {k : PUnit → Prog (TpuEff nD τ sig (Elt F) Λ₀ .tc) α} :
    on m K c 2 ⊢ iprop(cred (tallyAt (c.tc, .reg barS) 1 2) -∗ atPos ER (c.tc, .reg barS) 0 ∅ 0
      -∗ (iprop(on m K c 2
            ∗ (free (F := F) true 0 (fwd true c) ∗ free (F := F) true 1 (fwd true c) ∗ free (F := F) true 2 (fwd true c))
            ∗ (free (F := F) false 0 (fwd false c) ∗ free (F := F) false 1 (fwd false c) ∗ free (F := F) false 2 (fwd false c))
            ∗ semVal (c.tc, .reg barS) 0) -∗ run c (k ⟨⟩) Q)
      -∗ run c (.op (.semWait q u) k) Q) := by
  subst hq
  unfold on
  iintro ⟨#He, Ht⟩ Hc Hp Hk
  iapply (run_barrier (K := K) m c hu) $$ [Ht Hc Hp]
  · isplitr; · iexact He
    isplitl [Ht]; · iexact Ht
    isplitl [Hc]; · iexact Hc
    iexact Hp
  iintro ⟨Ht, H0, H1, Hz⟩
  ihave H0 := (Entails.of_eq (pay_bar m false c)) $$ H0
  ihave H1 := (Entails.of_eq (pay_bar m true c)) $$ H1
  iapply Hk
  isplitl [Ht]
  · isplitr; · iexact He
    iexact Ht
  isplitl [H0]; · iexact H0
  isplitl [H1]; · iexact H1
  iexact Hz

/-- A credit given. -/
theorem go_give {n : ℕ} (d : Bool) (j : ℕ) (hx : sites[n]? = some (.crd d j)) {q : Sem sig} (hs : crdS d = q) {u : ℕ} (hu : (Site.crd d j).units = u)
    {t : Dev nD} (ht : t = fwd (!d) c) {α : Type} {Q : α → sProp 𝕄} {k : PUnit → Prog (TpuEff nD τ sig (Elt F) Λ₀ .tc) α} :
    on m K c n ⊢ iprop((on m K c (n + 1) -∗ run c (k ⟨⟩) Q) -∗ run c (.op (.semSignal (t : Thread nD τ) q u) k) Q) := by
  unfold on
  iintro ⟨#He, Ht⟩ Hk
  iapply (run_signal (K := K) m c hx (q := q) (congrArg SemLoc.reg hs) rfl hu ht) $$ [Ht]
  · isplitr; · iexact He
    isplitl [Ht]; · iexact Ht
    rw [show pay m (Site.crd d j) t = iprop(emp) from rfl]
    iempintro
  iintro Ht
  iapply Hk
  isplitr; · iexact He
  iexact Ht

/-- A credit taken, -/
theorem go_take {n : ℕ} (d : Bool) (h : ℕ) (hn : ∀ x ∈ sites.drop n, (Site.crd d (h - 1)).idx < x.idx) (hh : h < hops d)
    {q : Sem sig} (hq : crdS d = q) {u : ℕ} (hu : u = 1) {α : Type} {Q : α → sProp 𝕄} {k : PUnit → Prog (TpuEff nD τ sig (Elt F) Λ₀ .tc) α} :
    on m K c n ⊢ iprop(crdTok d h c -∗ cpos d c h
      -∗ (iprop(on m K c n ∗ cpos d c (h + 1)) -∗ run c (k ⟨⟩) Q) -∗ run c (.op (.semWait q u) k) Q) := by
  unfold on
  iintro ⟨#He, Ht⟩ Hc Hp Hk
  iapply (run_credit (K := K) m c d h n hn hh hq hu) $$ [Ht Hc Hp]
  · isplitr; · iexact He
    isplitl [Ht]; · iexact Ht
    isplitl [Hc]; · iexact Hc
    iexact Hp
  iintro ⟨Ht, H⟩
  iapply Hk
  isplitl [Ht]
  · isplitr; · iexact He
    iexact Ht
  iexact H

/-- the last of its direction. -/
theorem go_take_last {n : ℕ} (d : Bool) (h : ℕ) (hn : ∀ x ∈ sites.drop n, (Site.crd d (h - 1)).idx < x.idx) (hh : h + 1 = hops d)
    {q : Sem sig} (hq : crdS d = q) {u : ℕ} (hu : u = 1) {α : Type} {Q : α → sProp 𝕄} {k : PUnit → Prog (TpuEff nD τ sig (Elt F) Λ₀ .tc) α} :
    on m K c n ⊢ iprop(crdTok d h c -∗ cpos d c h
      -∗ (iprop(on m K c n ∗ semVal (c.tc, .reg (crdS d)) 0) -∗ run c (k ⟨⟩) Q) -∗ run c (.op (.semWait q u) k) Q) := by
  unfold on
  iintro ⟨#He, Ht⟩ Hc Hp Hk
  iapply (run_credit_last (K := K) m c d h n hn hh hq hu) $$ [Ht Hc Hp]
  · isplitr; · iexact He
    isplitl [Ht]; · iexact Ht
    isplitl [Hc]; · iexact Hc
    iexact Hp
  iintro ⟨Ht, H⟩
  iapply Hk
  isplitl [Ht]
  · isplitr; · iexact He
    iexact Ht
  iexact H

/-- The slot of a hop is that of the fourth after it, a round on. -/
theorem cell_later (d : Bool) (h : ℕ) (c : Dev nD) : (Site.rcv d (h + 4)).cell c = (Site.rcv d h).cell c := by
  show ((c.tc, .dma (rcvS d (sl (h + 4)))) : GSem nD τ sig) = (c.tc, .dma (rcvS d (sl h)))
  rw [show sl (h + 4) = sl h from Fin.ext (Nat.add_mod_right h 4)]

theorem rpos_later (d : Bool) (h r : ℕ) (c : Dev nD) : (rpos d (h + 4) c r : sProp 𝕄) = rpos d h c r := by
  unfold rpos
  rw [cell_later]

theorem round_later (h : ℕ) : (h + 4) / 4 = h / 4 + 1 := Nat.add_div_right h (by decide)

/-- A block received, held in halves, with what came along. -/
theorem go_receive {n : ℕ} (d : Bool) (h : ℕ) (hn : ∀ x ∈ sites.drop n, (Site.rcv d h).idx < x.idx) (hh : h < hops d)
    {q : DmaSem sig} (hq : rcvS d (sl h) = q) {ms : Space} {s : Shape} {e : EltTy}
    {src : Memref sig .tc ms s e} {dst : Memref sig .tc .vmem S1024x512 .bf16} (hdst : dst = slotM d (sl h)) {w : src.view.WordExact} {w' : dst.view.WordExact}
    {α : Type} {Q : α → sProp 𝕄} {k : PUnit → Prog (TpuEff nD τ sig (Elt F) Λ₀ .tc) α} :
    on m K c n ⊢ iprop(rcvTok d h c -∗ rpos d h c (h / 4)
      -∗ (iprop(on m K c n ∗ rpos d (h + 4) c ((h + 4) / 4) ∗ reached ER ((Site.rcv d (h + 4)).cell c) ((h + 4) / 4)
              ∗ holds (slotM d (sl h)) c fullShare.left (blk m d (h + 1) c) ∗ holds (slotM d (sl h)) c fullShare.right (blk m d (h + 1) c)
              ∗ carry (F := F) d h (fwd (!d) c)) -∗ run c (k ⟨⟩) Q)
      -∗ run c (.op (.waitDma2 q src dst w w') k) Q) := by
  subst hdst
  rw [rpos_later, cell_later, round_later]
  unfold on
  iintro ⟨#He, Ht⟩ Hc Hp Hk
  iapply (run_receive (K := K) m c d h n hn hh hq (slotM_credit d (sl h))) $$ [Ht Hc Hp]
  · isplitr; · iexact He
    isplitl [Ht]; · iexact Ht
    isplitl [Hc]; · iexact Hc
    iexact Hp
  iintro ⟨Ht, Hp, Hr, Hs, Hy⟩
  ihave ⟨Hl, Hs⟩ := (halves c (slotM d (sl h)) (blk m d (h + 1) c)) $$ Hs
  iapply Hk
  isplitl [Ht]
  · isplitr; · iexact He
    iexact Ht
  isplitl [Hp]; · iexact Hp
  isplitl [Hr]; · iexact Hr
  isplitl [Hl]; · iexact Hl
  isplitl [Hs]; · iexact Hs
  iexact Hy

/-- One received from hop 2 on brings the leave for the next slot of the other direction. -/
theorem go_receive_free {n : ℕ} (d : Bool) (d' : Bool) (hd : (!d) = d') (h : ℕ) (hy : 2 ≤ h ∧ h + 1 < hops d') (hn : ∀ x ∈ sites.drop n, (Site.rcv d h).idx < x.idx)
    (hh : h < hops d) {q : DmaSem sig} (hq : rcvS d (sl h) = q) {ms : Space} {s : Shape} {e : EltTy}
    {src : Memref sig .tc ms s e} {dst : Memref sig .tc .vmem S1024x512 .bf16} (hdst : dst = slotM d (sl h)) {w : src.view.WordExact} {w' : dst.view.WordExact}
    {α : Type} {Q : α → sProp 𝕄} {k : PUnit → Prog (TpuEff nD τ sig (Elt F) Λ₀ .tc) α} :
    on m K c n ⊢ iprop(rcvTok d h c -∗ rpos d h c (h / 4)
      -∗ (iprop(on m K c n ∗ rpos d (h + 4) c ((h + 4) / 4) ∗ reached ER ((Site.rcv d (h + 4)).cell c) ((h + 4) / 4)
              ∗ holds (slotM d (sl h)) c fullShare.left (blk m d (h + 1) c) ∗ holds (slotM d (sl h)) c fullShare.right (blk m d (h + 1) c)
              ∗ free (F := F) d' (h + 1) (fwd d' c)) -∗ run c (k ⟨⟩) Q)
      -∗ run c (.op (.waitDma2 q src dst w w') k) Q) := by
  subst hd
  have H := go_receive (K := K) (n := n) m c d h hn hh hq hdst (w := w) (w' := w') (Q := Q) (k := k)
  unfold carry at H
  rw [if_pos hy] at H
  exact H

/-- A block sent on that brings nothing along, -/
theorem go_send {n : ℕ} (d : Bool) (h : ℕ) (hx : sites[n]? = some (.rcv d h)) (hy : ¬ (2 ≤ h ∧ h + 1 < hops (!d))) {t : Dev nD} (ht : t = fwd d c)
    {src : Memref sig .tc .vmem S1024x512 .bf16} (hsrc : src = slotM d (sl (h + 3)))
    {dst : Memref sig .tc .vmem S1024x512 .bf16} (hdst : dst = slotM d (sl h))
    {qs qr : DmaSem sig} (q' : DmaSem sig) (hq : qs = q') (hqr : rcvS d (sl h) = qr)
    {hsc : dst.view.ref.isScScratch = false} {w : src.view.WordExact} {w' : dst.view.WordExact}
    {hsem : DmaTarget.Typed .vmem (.dma qr) (.remote (Dev.tc t : Thread nD τ) dst (.dma qs) hsc)}
    {q : PosShare TreeShare} {α : Type} {Q : α → sProp 𝕄} {k : PUnit → Prog (TpuEff nD τ sig (Elt F) Λ₀ .tc) α} :
    on m K c n ⊢ iprop(holds (slotM d (sl (h + 3))) c q (blk m d h c) -∗ free (F := F) d h (fwd d c) -∗ semVal (c.tc, .dma q') 0
      -∗ (iprop(on m K c (n + 1) ∗ flight c q' wN (holds (slotM d (sl (h + 3))) c q (blk m d h c))) -∗ run c (k ⟨⟩) Q)
      -∗ run c (.op (.enqueueDma src (.remote (Dev.tc t : Thread nD τ) dst (.dma qs) hsc) (.dma qr) w w' hsem) k) Q) := by
  subst hq
  unfold on
  iintro ⟨#He, Ht⟩ Hs Hf Hz Hk
  iapply (run_send (K := K) m c d h hx ht hsrc hdst hqr) $$ [Ht Hs Hf Hz]
  · isplitr; · iexact He
    isplitl [Ht]; · iexact Ht
    isplitl [Hs]; · iexact Hs
    isplitl [Hf]; · iexact Hf
    isplitr [Hz]
    · unfold carry
      rw [if_neg hy]
      iempintro
    iexact Hz
  iintro ⟨Ht, H⟩
  iapply Hk
  isplitl [Ht]
  · isplitr; · iexact He
    iexact Ht
  iexact H

/-- and one that brings along the leave for a slot emptied: its halves. -/
theorem go_send_carry {n : ℕ} (d : Bool) (d' : Bool) (hd : (!d) = d') (h : ℕ) (hx : sites[n]? = some (.rcv d h)) (hy : 2 ≤ h ∧ h + 1 < hops d') {t : Dev nD} (ht : t = fwd d c)
    {src : Memref sig .tc .vmem S1024x512 .bf16} (hsrc : src = slotM d (sl (h + 3)))
    {dst : Memref sig .tc .vmem S1024x512 .bf16} (hdst : dst = slotM d (sl h))
    {qs qr : DmaSem sig} (q' : DmaSem sig) (hq : qs = q') (hqr : rcvS d (sl h) = qr)
    {hsc : dst.view.ref.isScScratch = false} {w : src.view.WordExact} {w' : dst.view.WordExact}
    {hsem : DmaTarget.Typed .vmem (.dma qr) (.remote (Dev.tc t : Thread nD τ) dst (.dma qs) hsc)}
    {q : PosShare TreeShare} {α : Type} {Q : α → sProp 𝕄} {k : PUnit → Prog (TpuEff nD τ sig (Elt F) Λ₀ .tc) α} {Y : Vec F S1024x512 .bf16} :
    on m K c n ⊢ iprop(holds (slotM d (sl (h + 3))) c q (blk m d h c) -∗ free (F := F) d h (fwd d c) -∗ semVal (c.tc, .dma q') 0
      -∗ holds (slotM d' (sl (h + 1))) c fullShare.left Y -∗ holds (slotM d' (sl (h + 1))) c fullShare.right Y
      -∗ reached ER ((Site.rcv d' (h + 1)).cell c) ((h + 1) / 4)
      -∗ (iprop(on m K c (n + 1) ∗ flight c q' wN (holds (slotM d (sl (h + 3))) c q (blk m d h c))) -∗ run c (k ⟨⟩) Q)
      -∗ run c (.op (.enqueueDma src (.remote (Dev.tc t : Thread nD τ) dst (.dma qs) hsc) (.dma qr) w w' hsem) k) Q) := by
  subst hq hd
  unfold on
  iintro ⟨#He, Ht⟩ Hs Hf Hz Hl Hr Hy Hk
  iapply (run_send (K := K) m c d h hx ht hsrc hdst hqr) $$ [Ht Hs Hf Hz Hl Hr Hy]
  · isplitr; · iexact He
    isplitl [Ht]; · iexact Ht
    isplitl [Hs]; · iexact Hs
    isplitl [Hf]; · iexact Hf
    isplitr [Hz]
    · unfold carry
      rw [if_pos hy]
      unfold free
      isplitl [Hl Hr]
      · iapply (rejoin c (slotM (!d) (sl (h + 1))) Y) $$ Hl Hr
      iexact Hy
    iexact Hz
  iintro ⟨Ht, H⟩
  iapply Hk
  isplitl [Ht]
  · isplitr; · iexact He
    iexact Ht
  iexact H

end Protocol

end Cert.Ring
-- ==== Proof.Terms.lean ====
/-
What the run of the body is told in: the neighbours and the output blocks as the program addresses them, the values it
computes, its copies under way, and its accesses to the buffers.
-/
module

public import proofs.«01_k».proof.Proof.Moves

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4 eq_ix2 reshapeEquiv_ix2_1ab reshapeEquiv_ix2_11ab)
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-! ## Addresses -/

section Addresses
variable (c : Dev nD)

theorem dev_left : k0_dev1 c = (prv c).val := by revert c; decide
theorem dev_right : k0_dev2 c = (nxt c).val := by revert c; decide

/-- A device addressed as the previous one, -/
theorem to_left {n : ℕ} {hn : n < nD} (h : n = k0_dev1 c) : (⟨n, hn⟩ : Dev nD) = fwd false c := Fin.ext (h.trans (dev_left c))
/-- and as the next one. -/
theorem to_right {n : ℕ} {hn : n < nD} (h : n = k0_dev2 c) : (⟨n, hn⟩ : Dev nD) = fwd true c := Fin.ext (h.trans (dev_right c))

theorem off_own : k0_off1 c = ![c.val * 1024, 0] := by revert c; decide
theorem off_cw (r : Fin 8) : k0_off2 c (BitVec.ofNat 32 (1 + r.val)) = ![(org true (r.val + 1) c).val * 1024, 0] := by revert c r; decide
theorem off_ccw (r : Fin 7) : k0_off3 c (BitVec.ofNat 32 (1 + r.val)) = ![(org false (r.val + 1) c).val * 1024, 0] := by revert c r; decide

/-- The block of the output of the device's own rows, -/
theorem out_own : (Memref.whole main_v1).slice (Rect.unit (s := S16384x1024) (k0_off1 c) S1024x1024.size (k0_off1_inb c)) (fun _ => rfl) = outM c :=
  Memref.slice_unit_congr _ (off_own c) _ _ (fun _ => rfl) (fun _ => rfl)
/-- of the rows that come along direction `true` at hop `r`, -/
theorem out_cw (r : Fin 8) : (Memref.whole main_v1).slice (Rect.unit (s := S16384x1024) (k0_off2 c (BitVec.ofNat 32 (1 + r.val))) S1024x1024.size (k0_off2_inb c r)) (fun _ => rfl)
    = outM (org true (r.val + 1) c) :=
  Memref.slice_unit_congr _ (off_cw c r) _ _ (fun _ => rfl) (fun _ => rfl)
/-- and along direction `false`. -/
theorem out_ccw (r : Fin 7) : (Memref.whole main_v1).slice (Rect.unit (s := S16384x1024) (k0_off3 c (BitVec.ofNat 32 (1 + r.val))) S1024x1024.size (k0_off3_inb c r)) (fun _ => rfl)
    = outM (org false (r.val + 1) c) :=
  Memref.slice_unit_congr _ (off_ccw c r) _ _ (fun _ => rfl) (fun _ => rfl)

end Addresses

/-! ## Semaphores of the copies within a device -/

/-- The semaphore of the copies of row `i` of the staging buffer, direction `d`'s quarter, -/
def stgS (d : Bool) (i : Fin 2) : DmaSem sig :=
  match d with
  | true => ((cc0_scratch11.slice (Rect.unit (s := S2) ![i.val] S1.size (by revert i; decide))).squeeze S_ squeezes_S1_S_).sem
  | false => ((cc0_scratch12.slice (Rect.unit (s := S2) ![i.val] S1.size (by revert i; decide))).squeeze S_ squeezes_S1_S_).sem
/-- and of the copies of half `b` of row `i` of the results. -/
def putS (i b : Fin 2) : DmaSem sig :=
  match b with
  | 0 => ((cc0_scratch8.slice (Rect.unit (s := S2) ![i.val] S1.size (by revert i; decide))).squeeze S_ squeezes_S1_S_).sem
  | 1 => ((cc0_scratch9.slice (Rect.unit (s := S2) ![i.val] S1.size (by revert i; decide))).squeeze S_ squeezes_S1_S_).sem

/-- The quarter of a staging row that direction `d` uses. -/
def qt : Bool → Fin 2
  | true => 0
  | false => 1

/-- A DMA semaphore of device `c` at zero. -/
abbrev zero (c : Dev nD) (q : DmaSem sig) : sProp 𝕄 := semVal (c.tc, .dma q) 0

/-! ## The values -/

/-- A block with a leading unit axis dropped, and with two put before it. -/
def flat (W : Vec F S1x1024x1024 .f32) : Vec F S1024x1024 .f32 := fun y => W (Shape.reshapeEquiv squeezes_S1x1024x1024_S1024x1024.numel_eq y)
def wide (X : Vec F S1024x512 .bf16) : Vec F S1x1x1024x512 .bf16 := fun x => X ((Shape.reshapeEquiv squeezes_S1x1x1024x512_S1024x512.numel_eq).symm x)

/-- `B` at the width the products take it at. -/
abbrev bbf (c : Dev nD) : Vec F S512x1024 .bf16 := k0_pay2 (bv m c)
/-- The rows of the product that device `c`'s own block gives, -/
def ownV (c : Dev nD) : Vec F S1024x1024 .f32 := flat (k0_pay5 (abf m c) (bbf m c))
/-- those of the two blocks that come after `h` hops, one above the other, -/
def hopV (h : ℕ) (c : Dev nD) : Vec F S1x2048x1024 .f32 := k0_pay6 (pair (blk m true h c) (blk m false h c)) (bbf m c)
/-- and those of the last block. -/
def farV (c : Dev nD) : Vec F S1024x1024 .f32 := flat (k0_pay14 (wide (blk m true 8 c)) (bbf m c))

/-! ## Copies under way -/

/-- Hop `h` of direction `d` sent and not waited for. -/
abbrev sent (d : Bool) (h : ℕ) (c : Dev nD) : sProp 𝕄 :=
  flight c (sndS d (sl h)) wN (holds (slotM d (sl (h + 3))) c fullShare.right (blk m d h c))
/-- The block that came after `h` hops on its way to its quarter of staging row `i`. -/
abbrev staged (d : Bool) (h : ℕ) (i : Fin 2) (c : Dev nD) : sProp 𝕄 :=
  flight c (stgS d i) wN iprop(holds (cmpM i (qt d)) c fullShare (blk m d h c) ∗ holds (slotM d (sl (h + 3))) c fullShare.left (blk m d h c))
/-- Half `b` of row `i` of the results on its way to the output's block `o`. -/
abbrev put (i b : Fin 2) (o : Fin 16) (X : Vec F S1024x1024 .f32) (c : Dev nD) : sProp 𝕄 :=
  flight c (putS i b) wO iprop(holds (outM o) c fullShare X ∗ holds (resM i b) c fullShare X)

/-! ## Accesses -/

/-- The buffer of `B` read whole. -/
def bM : Memref sig .tc .vmem S512x1024 .bf16 :=
  (Memref.whole cc0_scratch10).slice (Rect.unit (s := S512x1024) ![0, 0] S512x1024.size inb_S512x1024_S512x1024_0_0) (fun _ => rfl)

theorem bM_any (c : Dev nD) : (anyOf (Memref.whole cc0_scratch10) c : sProp 𝕄) = anyOf (F := F) bM c := by
  have hz : ∀ a : Fin S512x1024.rank, (![0, 0] : Fin 2 → ℕ) a = 0 := by decide
  refine equiv_iff.mp ⟨any_elim c fun X => ?_, any_elim c fun X => ?_⟩
  · exact BIBase.Entails.trans (Entails.of_eq (full_slice c fullShare (Memref.whole cc0_scratch10) ![0, 0] hz inb_S512x1024_S512x1024_0_0 X)) (any_intro c (M := bM) X)
  · exact BIBase.Entails.trans (Entails.of_eq (full_slice c fullShare (Memref.whole cc0_scratch10) ![0, 0] hz inb_S512x1024_S512x1024_0_0 X).symm)
      (any_intro c (M := (Memref.whole cc0_scratch10 : Memref sig .tc .vmem S512x1024 .bf16)) X)

section Accesses
variable (c : Dev nD)

/-- A store of the device's own block to slot 3 of direction `d`. -/
theorem own_slot (d : Bool) (w : Vec F S1x1024x512 .bf16) (hw : w = shapeCast S1x1024x512 (abf m c) shapeCasts_S1024x512_S1x1024x512)
    (N : Memref sig .tc .vmem S1x1024x512 .bf16) (hN : N.squeeze S1024x512 squeezes_S1x1024x512_S1024x512 = slotM d 3) :
    (holds N c fullShare w : sProp 𝕄) ⊢ iprop(holds (slotM d 3) c fullShare.left (blk m d 0 c) ∗ holds (slotM d 3) c fullShare.right (blk m d 0 c)) := by
  refine BIBase.Entails.trans (Entails.of_eq ?_) (halves c (slotM d 3) (blk m d 0 c))
  rw [holds_squeeze c fullShare N S1024x512 squeezes_S1x1024x512_S1024x512, hN]
  refine congrArg _ (funext fun y => ?_)
  rw [hw]
  show abf m c (Shape.reshapeEquiv _ (Shape.reshapeEquiv _ y)) = _
  rw [Shape.reshapeEquiv_reshapeEquiv, Shape.reshapeEquiv_self]
  rfl

/-- A load of `B`. -/
theorem go_load_b {α : Type} {Q : α → sProp 𝕄} {hl : (Memref.whole cc0_scratch10).view.LoadsAt (Rect.unit (s := S512x1024) ![0, 0] S512x1024.size inb_S512x1024_S512x1024_0_0).toLoadRect}
    {X : Vec F S512x1024 .bf16} {k : Vec F S512x1024 .bf16 → Prog (TpuEff nD τ sig (Elt F) Λ₀ .tc) α} :
    (holds bM c fullShare X : sProp 𝕄) ⊢ iprop((holds bM c fullShare X -∗ run c (k X) Q)
      -∗ run c (.op (.load (Memref.whole cc0_scratch10) (Rect.unit (s := S512x1024) ![0, 0] S512x1024.size inb_S512x1024_S512x1024_0_0).toLoadRect hl) k) Q) :=
  go_load (M := Memref.whole cc0_scratch10) (r := Rect.unit (s := S512x1024) ![0, 0] S512x1024.size inb_S512x1024_S512x1024_0_0) c bM (fun _ => rfl) rfl

/-- A load of staging row `i`, its quarters holding two blocks. -/
theorem go_load_row {α : Type} {Q : α → sProp 𝕄} (i : Fin 2) {inb : ∀ a, (![i.val, 0, 0, 0] : Fin 4 → ℕ) a + S1x2x1024x512.size a ≤ S2x2x1024x512.size a}
    {hl : (Memref.whole cc0_scratch2).view.LoadsAt (Rect.unit (s := S2x2x1024x512) ![i.val, 0, 0, 0] S1x2x1024x512.size inb).toLoadRect}
    {X Y : Vec F S1024x512 .bf16} {k : Vec F S1x2x1024x512 .bf16 → Prog (TpuEff nD τ sig (Elt F) Λ₀ .tc) α} :
    (holds (cmpM i 0) c fullShare X : sProp 𝕄) ⊢ iprop(holds (cmpM i 1) c fullShare Y
      -∗ (iprop(anyOf (F := F) (cmpM i 0) c ∗ anyOf (F := F) (cmpM i 1) c) -∗ run c (k (pair X Y)) Q)
      -∗ run c (.op (.load (Memref.whole cc0_scratch2) (Rect.unit (s := S2x2x1024x512) ![i.val, 0, 0, 0] S1x2x1024x512.size inb).toLoadRect hl) k) Q) := by
  iintro HX HY Hk
  iapply (go_load c (cmpRow i) (fun _ => rfl) rfl (q := fullShare) (X := pair X Y)) $$ [HX HY]
  · iapply (Entails.of_eq (cmpRow_holds c fullShare i X Y).symm)
    isplitl [HX]; · iexact HX
    iexact HY
  iintro H
  ihave ⟨HX, HY⟩ := (Entails.of_eq (cmpRow_holds c fullShare i X Y)) $$ H
  iapply Hk
  isplitl [HX]; · iapply (any_intro c X) $$ HX
  iapply (any_intro c Y) $$ HY

/-- Row `i` of the results stored, after a load of it whose value is not used. -/
theorem go_store_row {α : Type} {Q : α → sProp 𝕄} (i : Fin 2) {inb : ∀ a, (![i.val, 0, 0] : Fin 3 → ℕ) a + S1x2048x1024.size a ≤ S2x2048x1024.size a}
    {hl : (Memref.whole cc0_scratch7).view.LoadsAt (Rect.unit (s := S2x2048x1024) ![i.val, 0, 0] S1x2048x1024.size inb).toLoadRect}
    {w : Vec F S1x2048x1024 .f32} {hx : ((Memref.whole cc0_scratch7).access (Rect.unit (s := S2x2048x1024) ![i.val, 0, 0] S1x2048x1024.size inb)).Stores Finset.univ}
    {hm : (Finset.univ : Finset S1x2048x1024.Idx) = Finset.univ ∨ ∀ a : Fin 3, (Rect.unit (s := S2x2048x1024) ![i.val, 0, 0] S1x2048x1024.size inb).stride a = 1}
    {k : PUnit → Prog (TpuEff nD τ sig (Elt F) Λ₀ .tc) α} :
    (anyOf (resM i 0) c : sProp 𝕄) ⊢ iprop(anyOf (resM i 1) c
      -∗ (iprop(holds (resM i 0) c fullShare (half 0 w) ∗ holds (resM i 1) c fullShare (half 1 w)) -∗ run c (k ⟨⟩) Q)
      -∗ run c (.op (.load (Memref.whole cc0_scratch7) (Rect.unit (s := S2x2048x1024) ![i.val, 0, 0] S1x2048x1024.size inb).toLoadRect hl)
          fun _ => .op (.store (Memref.whole cc0_scratch7) (Rect.unit (s := S2x2048x1024) ![i.val, 0, 0] S1x2048x1024.size inb) w Finset.univ hx hm) k) Q) := by
  iintro HX HY Hk
  iapply (go_store c (resRow i) (fun _ => rfl) rfl) $$ [HX HY]
  · iapply (Entails.of_eq (resRow_any c i).symm)
    isplitl [HX]; · iexact HX
    iexact HY
  iintro H
  iapply Hk
  iapply (Entails.of_eq (resRow_holds c fullShare i w)) $$ H

end Accesses

/-! ## The program's operands -/

/-- `f` at the operands the kernel is called with. -/
abbrev here.{u} {β : Type u} (a0 : Memref sig .tc .vmem S1024x512 .f32) (h0 : a0.IsWhole) (a1 : Memref sig .tc .vmem S512x1024 .f32) (h1 : a1.IsWhole)
    (f : (arg0 : Memref sig .tc .vmem S1024x512 .f32) → arg0.IsWhole → (arg1 : Memref sig .tc .vmem S512x1024 .f32) → arg1.IsWhole
      → (arg2 : Memref sig .tc .hbm S16384x1024 .f32) → arg2.IsWhole → (arg3 : Memref sig .tc .vmem S4x1024x512 .bf16) → arg3.IsWhole
      → (arg4 : Memref sig .tc .vmem S4x1024x512 .bf16) → arg4.IsWhole → (arg5 : Memref sig .tc .vmem S2x2x1024x512 .bf16) → arg5.IsWhole
      → DmaSems sig S4 → DmaSems sig S4 → DmaSems sig S4 → DmaSems sig S4
      → (arg10 : Memref sig .tc .vmem S2x2048x1024 .f32) → arg10.IsWhole → DmaSems sig S2 → DmaSems sig S2
      → (arg13 : Memref sig .tc .vmem S512x1024 .bf16) → arg13.IsWhole → DmaSems sig S2 → DmaSems sig S2 → Sems sig S_ → Sems sig S_ → β) : β :=
  f a0 h0 a1 h1 (Memref.whole main_v1) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6 (Memref.whole cc0_scratch7) (Memref.isWhole_whole _) cc0_scratch8 cc0_scratch9
    (Memref.whole cc0_scratch10) (Memref.isWhole_whole _) cc0_scratch11 cc0_scratch12 cc0_scratch13 cc0_scratch14

end Cert.Ring
-- ==== Proof.Access.lean ====
/-
The accesses of the run that only its opening and its end make.
-/
module

public import proofs.«01_k».proof.Proof.Terms

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

variable (c : Dev nD)

/-- A load of a whole operand. -/
theorem go_load_all {s : Shape} {e : EltTy} (M : Memref sig .tc .vmem s e) {off : Fin s.rank → ℕ} (hoff : ∀ a, off a = 0) {inb : ∀ a, off a + s.size a ≤ s.size a}
    {hl : M.view.LoadsAt (Rect.unit (s := s) off s.size inb).toLoadRect}
    {q : PosShare TreeShare} {X : Vec F s e} {α : Type} {Q : α → sProp 𝕄} {k : Vec F s e → Prog (TpuEff nD τ sig (Elt F) Λ₀ .tc) α} :
    (holds M c q X : sProp 𝕄) ⊢ iprop((holds M c q X -∗ run c (k X) Q) -∗ run c (.op (.load M (Rect.unit (s := s) off s.size inb).toLoadRect hl) k) Q) := by
  have H := go_load (M := M) (r := Rect.unit (s := s) off s.size inb) (hl := hl) c (M.slice (Rect.unit (s := s) off s.size inb) (fun _ => rfl)) (fun _ => rfl) rfl (q := q) (X := X) (k := k) (Q := Q)
  rw [full_slice c q M off hoff inb X]
  exact H

/-- `B` stored. -/
theorem go_store_b {hl : (Memref.whole cc0_scratch10).view.LoadsAt (Rect.unit (s := S512x1024) ![0, 0] S512x1024.size inb_S512x1024_S512x1024_0_0).toLoadRect}
    {w : Vec F S512x1024 .bf16} {hx : ((Memref.whole cc0_scratch10).access (Rect.unit (s := S512x1024) ![0, 0] S512x1024.size inb_S512x1024_S512x1024_0_0)).Stores Finset.univ}
    {hm : (Finset.univ : Finset S512x1024.Idx) = Finset.univ ∨ ∀ a : Fin 2, (Rect.unit (s := S512x1024) ![0, 0] S512x1024.size inb_S512x1024_S512x1024_0_0).stride a = 1}
    {α : Type} {Q : α → sProp 𝕄} {k : PUnit → Prog (TpuEff nD τ sig (Elt F) Λ₀ .tc) α} :
    (anyOf bM c : sProp 𝕄) ⊢ iprop((holds bM c fullShare w -∗ run c (k ⟨⟩) Q)
      -∗ run c (.op (.load (Memref.whole cc0_scratch10) (Rect.unit (s := S512x1024) ![0, 0] S512x1024.size inb_S512x1024_S512x1024_0_0).toLoadRect hl)
          fun _ => .op (.store (Memref.whole cc0_scratch10) (Rect.unit (s := S512x1024) ![0, 0] S512x1024.size inb_S512x1024_S512x1024_0_0) w Finset.univ hx hm) k) Q) :=
  go_store (M := Memref.whole cc0_scratch10) (r := Rect.unit (s := S512x1024) ![0, 0] S512x1024.size inb_S512x1024_S512x1024_0_0) c bM (fun _ => rfl) rfl

/-- The device's own block stored to slot 3 of direction `d`: it is held in halves. -/
theorem go_store_own (d : Bool) {M : Memref sig .tc .vmem S4x1024x512 .bf16}
    (hM : (M.slice (Rect.unit (s := S4x1024x512) ![3, 0, 0] S1x1024x512.size inb_S4x1024x512_S1x1024x512_3_0_0) (fun _ => rfl)).squeeze S1024x512 squeezes_S1x1024x512_S1024x512 = slotM d 3)
    {hl : M.view.LoadsAt (Rect.unit (s := S4x1024x512) ![3, 0, 0] S1x1024x512.size inb_S4x1024x512_S1x1024x512_3_0_0).toLoadRect}
    {w : Vec F S1x1024x512 .bf16} (hw : w = shapeCast S1x1024x512 (abf m c) shapeCasts_S1024x512_S1x1024x512)
    {hx : (M.access (Rect.unit (s := S4x1024x512) ![3, 0, 0] S1x1024x512.size inb_S4x1024x512_S1x1024x512_3_0_0)).Stores Finset.univ}
    {hm : (Finset.univ : Finset S1x1024x512.Idx) = Finset.univ ∨ ∀ a : Fin 3, (Rect.unit (s := S4x1024x512) ![3, 0, 0] S1x1024x512.size inb_S4x1024x512_S1x1024x512_3_0_0).stride a = 1}
    {α : Type} {Q : α → sProp 𝕄} {k : PUnit → Prog (TpuEff nD τ sig (Elt F) Λ₀ .tc) α} :
    (anyOf (slotM d (sl 3)) c : sProp 𝕄) ⊢ iprop((iprop(holds (slotM d (sl 3)) c fullShare.left (blk m d 0 c) ∗ holds (slotM d (sl 3)) c fullShare.right (blk m d 0 c)) -∗ run c (k ⟨⟩) Q)
      -∗ run c (.op (.load M (Rect.unit (s := S4x1024x512) ![3, 0, 0] S1x1024x512.size inb_S4x1024x512_S1x1024x512_3_0_0).toLoadRect hl)
          fun _ => .op (.store M (Rect.unit (s := S4x1024x512) ![3, 0, 0] S1x1024x512.size inb_S4x1024x512_S1x1024x512_3_0_0) w Finset.univ hx hm) k) Q) := by
  have h3 : (anyOf (slotM d (sl 3)) c : sProp 𝕄) = anyOf (F := F) (M.slice (Rect.unit (s := S4x1024x512) ![3, 0, 0] S1x1024x512.size inb_S4x1024x512_S1x1024x512_3_0_0) (fun _ => rfl)) c := by
    rw [any_squeeze c _ S1024x512 squeezes_S1x1024x512_S1024x512, hM]; rfl
  rw [h3]
  have H := go_store (M := M) (r := Rect.unit (s := S4x1024x512) ![3, 0, 0] S1x1024x512.size inb_S4x1024x512_S1x1024x512_3_0_0) c _ (fun _ => rfl) rfl (w := w) (hl := hl) (hx := hx) (hm := hm) (k := k) (Q := Q)
  iintro Ha Hk
  iapply H $$ Ha
  iintro Hw
  iapply Hk
  iapply (own_slot m c d w hw _ hM) $$ Hw

/-- The first half of row 0 of the results stored, after a load of it whose value is not used. -/
theorem go_store_half {hl : (Memref.whole cc0_scratch7).view.LoadsAt (Rect.unit (s := S2x2048x1024) ![0, 0, 0] S1x1024x1024.size inb_S2x2048x1024_S1x1024x1024_0_0_0).toLoadRect}
    {w : Vec F S1x1024x1024 .f32} {hx : ((Memref.whole cc0_scratch7).access (Rect.unit (s := S2x2048x1024) ![0, 0, 0] S1x1024x1024.size inb_S2x2048x1024_S1x1024x1024_0_0_0)).Stores Finset.univ}
    {hm : (Finset.univ : Finset S1x1024x1024.Idx) = Finset.univ ∨ ∀ a : Fin 3, (Rect.unit (s := S2x2048x1024) ![0, 0, 0] S1x1024x1024.size inb_S2x2048x1024_S1x1024x1024_0_0_0).stride a = 1}
    {α : Type} {Q : α → sProp 𝕄} {k : PUnit → Prog (TpuEff nD τ sig (Elt F) Λ₀ .tc) α} :
    (anyOf (resM 0 0) c : sProp 𝕄) ⊢ iprop((holds (resM 0 0) c fullShare (flat w) -∗ run c (k ⟨⟩) Q)
      -∗ run c (.op (.load (Memref.whole cc0_scratch7) (Rect.unit (s := S2x2048x1024) ![0, 0, 0] S1x1024x1024.size inb_S2x2048x1024_S1x1024x1024_0_0_0).toLoadRect hl)
          fun _ => .op (.store (Memref.whole cc0_scratch7) (Rect.unit (s := S2x2048x1024) ![0, 0, 0] S1x1024x1024.size inb_S2x2048x1024_S1x1024x1024_0_0_0) w Finset.univ hx hm) k) Q) := by
  have ha : (anyOf (resM 0 0) c : sProp 𝕄) = anyOf (F := F) ((Memref.whole cc0_scratch7).slice (Rect.unit (s := S2x2048x1024) ![0, 0, 0] S1x1024x1024.size inb_S2x2048x1024_S1x1024x1024_0_0_0) (fun _ => rfl)) c :=
    (any_squeeze c ((Memref.whole cc0_scratch7).slice (Rect.unit (s := S2x2048x1024) ![0, 0, 0] S1x1024x1024.size inb_S2x2048x1024_S1x1024x1024_0_0_0) (fun _ => rfl)) S1024x1024 squeezes_S1x1024x1024_S1024x1024).symm
  rw [ha]
  have H := go_store (M := Memref.whole cc0_scratch7) (r := Rect.unit (s := S2x2048x1024) ![0, 0, 0] S1x1024x1024.size inb_S2x2048x1024_S1x1024x1024_0_0_0) c _ (fun _ => rfl) rfl (w := w) (hl := hl) (hx := hx) (hm := hm) (k := k) (Q := Q)
  iintro Ha Hk
  iapply H $$ Ha
  iintro Hw
  iapply Hk
  iapply (Entails.of_eq (holds_squeeze c fullShare ((Memref.whole cc0_scratch7).slice (Rect.unit (s := S2x2048x1024) ![0, 0, 0] S1x1024x1024.size inb_S2x2048x1024_S1x1024x1024_0_0_0) (fun _ => rfl)) S1024x1024 squeezes_S1x1024x1024_S1024x1024 w)) $$ Hw

/-- A load of the first quarter of staging row 1. -/
theorem go_load_quarter {hl : (Memref.whole cc0_scratch2).view.LoadsAt (Rect.unit (s := S2x2x1024x512) ![1, 0, 0, 0] S1x1x1024x512.size inb_S2x2x1024x512_S1x1x1024x512_1_0_0_0).toLoadRect}
    {X : Vec F S1024x512 .bf16} {α : Type} {Q : α → sProp 𝕄} {k : Vec F S1x1x1024x512 .bf16 → Prog (TpuEff nD τ sig (Elt F) Λ₀ .tc) α} :
    (holds (cmpM 1 0) c fullShare X : sProp 𝕄) ⊢ iprop((anyOf (F := F) (cmpM 1 0) c -∗ run c (k (wide X)) Q)
      -∗ run c (.op (.load (Memref.whole cc0_scratch2) (Rect.unit (s := S2x2x1024x512) ![1, 0, 0, 0] S1x1x1024x512.size inb_S2x2x1024x512_S1x1x1024x512_1_0_0_0).toLoadRect hl) k) Q) := by
  have hX : X = fun y => wide X (Shape.reshapeEquiv squeezes_S1x1x1024x512_S1024x512.numel_eq y) := by
    funext y; exact congrArg X (Equiv.symm_apply_apply _ y).symm
  have ha : (holds (cmpM 1 0) c fullShare X : sProp 𝕄) = holds ((Memref.whole cc0_scratch2).slice (Rect.unit (s := S2x2x1024x512) ![1, 0, 0, 0] S1x1x1024x512.size inb_S2x2x1024x512_S1x1x1024x512_1_0_0_0) (fun _ => rfl)) c fullShare (wide X) :=
    (congrArg (holds (cmpM 1 0) c fullShare) hX).trans
      (holds_squeeze c fullShare ((Memref.whole cc0_scratch2).slice (Rect.unit (s := S2x2x1024x512) ![1, 0, 0, 0] S1x1x1024x512.size inb_S2x2x1024x512_S1x1x1024x512_1_0_0_0) (fun _ => rfl)) S1024x512 squeezes_S1x1x1024x512_S1024x512 (wide X)).symm
  have H := go_load (M := Memref.whole cc0_scratch2) (r := Rect.unit (s := S2x2x1024x512) ![1, 0, 0, 0] S1x1x1024x512.size inb_S2x2x1024x512_S1x1x1024x512_1_0_0_0) c _ (fun _ => rfl) rfl (q := fullShare) (X := wide X) (hl := hl) (k := k) (Q := Q)
  iintro Ha Hk
  ihave Ha := (Entails.of_eq ha) $$ Ha
  iapply H $$ Ha
  iintro Hw
  iapply Hk
  ihave Hw := (Entails.of_eq ha.symm) $$ Hw
  iapply (any_intro c X) $$ Hw

end Cert.Ring
-- ==== Proof.State.lean ====
/-
What a device holds between the hops of the body's run.
-/
module

public import proofs.«01_k».proof.Proof.Access

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

variable (K : GSem nD τ sig → ℕ)

/-- Staging row `i` not in use. -/
def idle (i : Fin 2) (c : Dev nD) : sProp 𝕄 :=
  iprop(zero c (stgS true i) ∗ zero c (stgS false i) ∗ anyOf (F := F) (cmpM i 0) c ∗ anyOf (F := F) (cmpM i 1) c)

/-- Row `i` of the results not in use, -/
def resFree (i : Fin 2) (c : Dev nD) : sProp 𝕄 :=
  iprop(zero c (putS i 0) ∗ zero c (putS i 1) ∗ anyOf (F := F) (resM i 0) c ∗ anyOf (F := F) (resM i 1) c)

/-- and on its way out with the products of the blocks that came after `h` hops. -/
def resBusy (i : Fin 2) (h : ℕ) (c : Dev nD) : sProp 𝕄 :=
  iprop(put i 0 (org true h c) (half 0 (hopV m h c)) c ∗ put i 1 (org false h c) (half 1 (hopV m h c)) c)

/-- The output's blocks of those rows, not written, -/
def outs (h : ℕ) (c : Dev nD) : sProp 𝕄 :=
  iprop(anyOf (F := F) (outM (org true h c)) c ∗ anyOf (F := F) (outM (org false h c)) c)

/-- and written. -/
def done (h : ℕ) (c : Dev nD) : sProp 𝕄 :=
  iprop(holds (outM (org true h c)) c fullShare (half 0 (hopV m h c)) ∗ holds (outM (org false h c)) c fullShare (half 1 (hopV m h c)))

/-- The rights to wait that hop `h`'s blocks and the next hop's sends take, and the output's blocks they lead to. -/
def need (h : ℕ) (c : Dev nD) : sProp 𝕄 :=
  iprop(rcvTok true h c ∗ rcvTok false h c ∗ crdTok true (h + 1) c ∗ crdTok false (h + 1) c ∗ outs (F := F) (h + 1) c)

/-- Direction `d` with hop `h` just sent: the copy under way, the other half of its source, the credit taken so far, the
    other slots' send semaphores, and where the receive semaphores stand. -/
def side (d : Bool) (h : ℕ) (c : Dev nD) : sProp 𝕄 :=
  iprop(sent m d h c ∗ holds (slotM d (sl (h + 3))) c fullShare.left (blk m d h c) ∗ cpos d c (h + 1)
    ∗ zero c (sndS d (sl (h + 1))) ∗ zero c (sndS d (sl (h + 2))) ∗ zero c (sndS d (sl (h + 3)))
    ∗ rpos d h c (h / 4) ∗ rpos d (h + 1) c ((h + 1) / 4) ∗ rpos d (h + 2) c ((h + 2) / 4) ∗ rpos d (h + 3) c ((h + 3) / 4))

/-- The slot of the hop before, in halves, and how far the two slots to be emptied next have been filled. -/
def kept (d : Bool) (h : ℕ) (c : Dev nD) : sProp 𝕄 :=
  iprop(holds (slotM d (sl (h + 2))) c fullShare.left (blk m d (h - 1) c) ∗ holds (slotM d (sl (h + 2))) c fullShare.right (blk m d (h - 1) c)
    ∗ reached ER ((Site.rcv d (h + 2)).cell c) ((h + 2) / 4) ∗ reached ER ((Site.rcv d (h + 3)).cell c) ((h + 3) / 4))

/-- Direction `d` as the kernel is entered: the slots, the semaphores of the sends, and the positions. -/
def unsent (d : Bool) (c : Dev nD) : sProp 𝕄 :=
  iprop((anyOf (F := F) (slotM d (sl 0)) c ∗ anyOf (F := F) (slotM d (sl 1)) c ∗ anyOf (F := F) (slotM d (sl 2)) c ∗ anyOf (F := F) (slotM d (sl 3)) c)
    ∗ (zero c (sndS d (sl 0)) ∗ zero c (sndS d (sl 1)) ∗ zero c (sndS d (sl 2)) ∗ zero c (sndS d (sl 3)))
    ∗ (rpos (F := F) d 0 c 0 ∗ rpos (F := F) d 1 c 0 ∗ rpos (F := F) d 2 c 0 ∗ rpos (F := F) d 3 c 0) ∗ cpos (F := F) d c 0)

/-- The device as the kernel is entered, the operands' windows apart. -/
def start (c : Dev nD) : sProp 𝕄 :=
  iprop(on m K c 0 ∗ cred (tallyAt (c.tc, .reg barS) 1 2) ∗ atPos ER (c.tc, .reg barS) 0 ∅ 0 ∗ crdTok (F := F) true 0 c ∗ crdTok (F := F) false 0 c
    ∗ unsent (F := F) true c ∗ unsent (F := F) false c ∗ anyOf (F := F) bM c ∗ idle (F := F) 0 c ∗ idle (F := F) 1 c
    ∗ resFree (F := F) 0 c ∗ resFree (F := F) 1 c ∗ anyOf (F := F) (outM c) c)

/-- The device with its own block sent both ways and its product on its way out, -/
def first (c : Dev nD) : sProp 𝕄 :=
  iprop(on m K c 6 ∗ side m true 0 c ∗ side m false 0 c
    ∗ free (F := F) true 1 (fwd true c) ∗ free (F := F) true 2 (fwd true c) ∗ free (F := F) false 1 (fwd false c) ∗ free (F := F) false 2 (fwd false c)
    ∗ holds bM c fullShare (bbf m c) ∗ idle (F := F) 0 c ∗ idle (F := F) 1 c
    ∗ put 0 0 c (ownV m c) c ∗ zero c (putS 0 1) ∗ anyOf (F := F) (resM 0 1) c ∗ resFree (F := F) 1 c)

/-- and with hop `h` sent both ways and the products of hop `h`'s blocks on their way out, those of the hop before still. -/
def mid (i j : Fin 2) (h n : ℕ) (c : Dev nD) : sProp 𝕄 :=
  iprop(on m K c n ∗ side m true h c ∗ side m false h c ∗ kept m true h c ∗ kept m false h c
    ∗ holds bM c fullShare (bbf m c) ∗ idle (F := F) 0 c ∗ idle (F := F) 1 c ∗ resBusy m i h c ∗ resBusy m j (h - 1) c)

/-- What the last three hops take besides. -/
def needLast (c : Dev nD) : sProp 𝕄 :=
  iprop(rcvTok (F := F) true 6 c ∗ rcvTok (F := F) false 6 c ∗ crdTok (F := F) true 7 c ∗ outs (F := F) 7 c ∗ rcvTok (F := F) true 7 c
    ∗ anyOf (F := F) (outM (org true 8 c)) c)

/-- Direction `d` with nothing more to come: its slots, and its semaphores at zero. -/
def ended (d : Bool) (c : Dev nD) : sProp 𝕄 :=
  iprop((anyOf (F := F) (slotM d (sl 0)) c ∗ anyOf (F := F) (slotM d (sl 1)) c ∗ anyOf (F := F) (slotM d (sl 2)) c ∗ anyOf (F := F) (slotM d (sl 3)) c)
    ∗ (zero c (sndS d (sl 0)) ∗ zero c (sndS d (sl 1)) ∗ zero c (sndS d (sl 2)) ∗ zero c (sndS d (sl 3)))
    ∗ semVal (c.tc, .reg (crdS d)) 0)

/-- Where the receive semaphores stand when every block has come. -/
def received (c : Dev nD) : sProp 𝕄 :=
  iprop((rpos (F := F) true 8 c 2 ∗ rpos (F := F) true 9 c 2 ∗ rpos (F := F) true 10 c 2 ∗ rpos (F := F) true 11 c 2)
    ∗ (rpos (F := F) false 8 c 2 ∗ rpos (F := F) false 9 c 2 ∗ rpos (F := F) false 10 c 2 ∗ rpos (F := F) false 7 c 1))

/-- The device with every block received and four copies to the output under way. -/
def last (c : Dev nD) : sProp 𝕄 :=
  iprop(on m K c 30 ∗ ended (F := F) true c ∗ ended (F := F) false c ∗ received (F := F) c ∗ holds bM c fullShare (bbf m c) ∗ idle (F := F) 0 c ∗ idle (F := F) 1 c
    ∗ resBusy m 1 7 c ∗ put 0 1 (org false 6 c) (half 1 (hopV m 6 c)) c ∗ put 0 0 (org true 8 c) (farV m c) c
    ∗ holds (outM (org true 6 c)) c fullShare (half 0 (hopV m 6 c)))

end Cert.Ring
-- ==== Proof.Cells.lean ====
/-
The protocol's records and tokens as the launch makes them: every cell's invariant, where each device stands on its own
cells, and the tokens of the payments it makes.
-/
module

public import proofs.«01_k».proof.Proof.State
public import Idealize.ShloMosaic.Lib.Pipeline.BigSepL

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-! ## The kernel's semaphores -/

/-- The kernel's own semaphores that payments are made on, -/
def paidL : List (SemLoc sig) :=
  [.reg (crdS true), .reg (crdS false), .dma (rcvS true (sl 0)), .dma (rcvS true (sl 1)), .dma (rcvS true (sl 2)), .dma (rcvS true (sl 3)),
    .dma (rcvS false (sl 0)), .dma (rcvS false (sl 1)), .dma (rcvS false (sl 2)), .dma (rcvS false (sl 3))]
/-- and the barrier's too. -/
def chanL : List (SemLoc sig) := paidL ++ [.reg barS]

theorem chans_eq : chans = chanL.toFinset := by decide
theorem chanL_nodup : chanL.Nodup := by decide

/-- The semaphores a device's own copies are waited for on. -/
def copyL : List (SemLoc sig) :=
  [.dma (stgS true 0), .dma (stgS false 0), .dma (stgS true 1), .dma (stgS false 1), .dma (putS 0 0), .dma (putS 0 1), .dma (putS 1 0), .dma (putS 1 1),
    .dma (sndS true (sl 0)), .dma (sndS true (sl 1)), .dma (sndS true (sl 2)), .dma (sndS true (sl 3)),
    .dma (sndS false (sl 0)), .dma (sndS false (sl 1)), .dma (sndS false (sl 2)), .dma (sndS false (sl 3))]

/-- The kernel's own semaphores. -/
def ownL : List (SemLoc sig) := copyL ++ paidL
def osem (k : Fin 26) : SemLoc sig := ownL[k.val]'k.isLt

theorem ownSemFacts : Pipeline.OwnSemFacts cfg0.spec osem := by decide

/-- Device `c`'s semaphores for its own copies, at zero. -/
def copies (c : Dev nD) : sProp 𝕄 := bigSepL copyL fun s => semVal (c.tc, s) 0

theorem ownSems0_eq (c : Dev nD) : (Pipeline.ownSems0 (Ix := ℕ) (Name := ℕ) (U := UU) (Lvl := ℕ) (Val := Elt F) (τ := τ) osem c : sProp 𝕄)
    = bigSepL ownL fun s => semVal (c.tc, s) 0 := by
  rw [Pipeline.ownSems0_eq_of_list c osem (List.finRange 26) (by decide) (by decide)]; rfl

/-- The barrier semaphore is the one that is not the kernel's own. -/
theorem unscopedSems0_eq (c : Dev nD) : (unscopedSems0 c : sProp 𝕄) = semVal (c.tc, .reg barS) 0 := by
  unfold unscopedSems0; rw [bigSep_eq_bigSepL_of_eq [SemLoc.reg barS] (by decide) (by decide)]; rfl

theorem sems_eq (c : Dev nD) :
    iprop(Pipeline.ownSems0 (Ix := ℕ) (Name := ℕ) (U := UU) (Lvl := ℕ) (Val := Elt F) (τ := τ) osem c ∗ unscopedSems0 c)
      = (iprop(copies c ∗ bigSep chans fun s => semVal (c.tc, s) 0) : sProp 𝕄) := by
  rw [ownSems0_eq, unscopedSems0_eq, bigSep_eq_bigSepL_of_eq chanL chans_eq chanL_nodup]
  unfold copies ownL chanL
  rw [bigSepL_append, bigSepL_append, bigSepL_singleton]
  exact equiv_iff.mp ⟨BI.sep_assoc, BI.sep_assoc'⟩

/-! ## Cells and tokens, device by device -/

theorem bigSep_cells (Φ : GSem nD τ sig → sProp 𝕄) : bigSep cells Φ = bigSep Finset.univ fun c : Dev nD => bigSep chans fun s => Φ (c.tc, s) := by
  unfold cells
  rw [bigSep_biUnion_eq _ _ _ (fun a _ b _ hab => Finset.disjoint_left.mpr fun g ha hb => by
    obtain ⟨s, -, rfl⟩ := Finset.mem_image.mp ha
    obtain ⟨s', -, h⟩ := Finset.mem_image.mp hb
    exact hab (congrArg (fun g : GSem nD τ sig => g.1.1) h).symm)]
  exact bigSep_congr fun c _ => bigSep_image_of_injOn (fun s _ s' _ h => congrArg Prod.snd h) Φ

/-- The token of device `c`'s payment `x`, as the launch names it. -/
def tok (c : Dev nD) (x : Site) : GSem nD τ sig × ℕ × ℕ := (x.cell (x.tgt c), x.round, x.duty)

theorem tgt_inj (x : Site) {a b : Dev nD} (h : x.tgt a = x.tgt b) : a = b := by
  cases x <;> exact (ring _).injective h

theorem tok_inj {c c' : Dev nD} {x y : Site} (hx : x ∈ sites) (hy : y ∈ sites) (h : tok c x = tok c' y) : c = c' ∧ x = y := by
  have h1 : x.sem = y.sem := congrArg (fun t : GSem nD τ sig × ℕ × ℕ => t.1.2) h
  have h2 : x.round = y.round := congrArg (fun t : GSem nD τ sig × ℕ × ℕ => t.2.1) h
  have h3 : x.duty = y.duty := congrArg (fun t : GSem nD τ sig × ℕ × ℕ => t.2.2) h
  have e : x = y := by
    have := siteAt_site x hx
    rw [h1, h2, h3, siteAt_site y hy] at this
    exact (Option.some.inj this).symm
  subst e
  exact ⟨tgt_inj x (congrArg (fun t : GSem nD τ sig × ℕ × ℕ => t.1.1.1) h), rfl⟩

/-- All tokens of the protocol. -/
def allToks : Finset (GSem nD τ sig × ℕ × ℕ) := Finset.univ.biUnion fun c : Dev nD => sites.toFinset.image (tok c)

theorem toks_eq (c : Dev nD) (l : List Site) :
    (toks c l : sProp 𝕄) = bigSepL l fun x => dutyTok ER (x.cell (x.tgt c)) x.round x.duty := by
  induction l with
  | nil => rfl
  | cons x l ih => rw [toks, ih, bigSepL_cons']

theorem bigSep_allToks : bigSep allToks (fun t => (dutyTok ER t.1 t.2.1 t.2.2 : sProp 𝕄)) = bigSep Finset.univ fun c : Dev nD => toks c sites := by
  unfold allToks
  rw [bigSep_biUnion_eq _ _ _ (fun a _ b _ hab => Finset.disjoint_left.mpr fun t ha hb => by
    obtain ⟨x, hx, rfl⟩ := Finset.mem_image.mp ha
    obtain ⟨y, hy, h⟩ := Finset.mem_image.mp hb
    exact hab (tok_inj (List.mem_toFinset.mp hy) (List.mem_toFinset.mp hx) h).1.symm)]
  refine bigSep_congr fun c _ => ?_
  rw [bigSep_image_of_injOn (fun x hx y hy h => (tok_inj (List.mem_toFinset.mp hx) (List.mem_toFinset.mp hy) h).2),
    bigSep_eq_bigSepL_of_eq sites rfl (by decide), toks_eq]
  rfl

/-! ## What the launch deals -/

/-- The launch's element: the library's own, and the protocol's. -/
def u₀ : UU :=
  (initOf (Pipeline.cells cfgs cellOf_inj) (Pipeline.launchToks cfgs cellOf_inj), (initOf cells allToks, 1))

/-- Where device `c` stands at the launch: at the start of each of its cells. -/
def places (c : Dev nD) : sProp 𝕄 := bigSep chans fun s => iprop(atPos ER (c.tc, s) 0 ∅ 0 ∗ reached ER (c.tc, s) 0)

/-- What the launch's element deals device `c`, -/
def G (c : Dev nD) : sProp 𝕄 :=
  iprop((bigSep chans fun s => roundState ER (Rd m) (c.tc, s) 0) ∗ places c ∗ toks c sites)

/-- and what it has once the invariants are made. -/
def G' (c : Dev nD) : sProp 𝕄 :=
  iprop(∃ K : GSem nD τ sig → ℕ, bigSep cells (fun g => iprop(cellInv ER (Rd m) (K g) g ∗ reached ER g 0))
    ∗ (bigSep chans fun s => atPos ER (c.tc, s) 0 ∅ 0) ∗ toks c sites ∗ copies c)

theorem fund_ring : BI.own (ER (initOf cells allToks)) ⊢ (|==> bigSep Finset.univ (G m) : sProp 𝕄) := by
  iintro HX
  imod (Rounds.fund ER (Rd m) cells allToks) $$ HX with ⟨Hst, Hr, Hat, Htok⟩
  imodintro
  ihave Hst := (Entails.of_eq (bigSep_cells fun g => roundState ER (Rd m) g 0)) $$ Hst
  ihave Hat := (Entails.of_eq (bigSep_cells (F := F) fun g => atPos ER g 0 ∅ 0)) $$ Hat
  ihave Hr := (Entails.of_eq (bigSep_cells (F := F) fun g => reached ER g 0)) $$ Hr
  ihave Htok := (Entails.of_eq (bigSep_allToks (F := F))) $$ Htok
  unfold G places
  simp only [bigSep_sep']
  iframe

/-- A device's cells get their invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep chans fun s => iprop(∃ κ : ℕ, cellInv ER (Rd m) κ (c.tc, s))) ∗ places c ∗ toks c sites ∗ copies c) := by
  unfold G
  iintro ⟨Hos, Hus, Hst, Hat, Htok⟩
  ihave Hv := (Entails.of_eq (sems_eq (F := F) c)) $$ [Hos Hus]
  · iframe
  icases Hv with ⟨Hc, Hv⟩
  imod (show iprop((bigSep chans fun s => semVal (c.tc, s) 0) ∗ bigSep chans fun s => roundState ER (Rd m) (c.tc, s) 0)
      ⊢ (|={Set.univ}=> bigSep chans fun s => iprop(∃ κ : ℕ, cellInv ER (Rd m) κ (c.tc, s)) : sProp 𝕄) from by
        rw [← bigSep_sep']
        exact (bigSep_mono fun s _ => (Rounds.body_intro ER (Rd m) (c.tc, s)).trans inv_alloc).trans (bigSep_fupd _ _)) $$ [Hv Hst] with Hinv
  · iframe
  imodintro
  iframe

/-- What every device may keep goes to each of them. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep chans fun s => iprop(∃ κ : ℕ, cellInv ER (Rd m) κ (c.tc, s))) ∗ places c ∗ toks c sites ∗ copies c) : sProp 𝕄)
      ⊢ bigSep Finset.univ (G' m) := by
  unfold places
  simp only [bigSep_sep']
  rw [← bigSep_cells fun g => iprop(∃ κ : ℕ, cellInv ER (Rd m) κ g), ← bigSep_cells (F := F) fun g => reached ER g 0]
  iintro ⟨HI, ⟨Hat, #HR⟩, Htok, Hc⟩
  ihave HK := (BI.bigSep_exists_pi cells (fun (g : GSem nD τ sig) (κ : ℕ) => (cellInv ER (Rd m) κ g : sProp 𝕄))) $$ HI
  icases HK with ⟨%K, #HI⟩
  iapply (deal (F := F) (R := bigSep cells (fun g => iprop(cellInv ER (Rd m) (K g) g ∗ reached ER g 0)))
    (Φ := fun c => iprop((bigSep chans fun s => atPos ER (c.tc, s) 0 ∅ 0) ∗ toks c sites ∗ copies c)) fun c _ => by
      unfold G'
      iintro ⟨H, Hr⟩
      iexists K
      iframe)
  simp only [bigSep_sep']
  isplitr
  · isplitl; · iexact HI
    iexact HR
  iframe

/-- The launch's step over all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Ring
-- ==== Proof.Opening.lean ====
/-
The start of the run: the neighbours told, the device's own block sent both ways, and its product put on its way out.
-/
module

public import proofs.«01_k».proof.Proof.State

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

variable {K : GSem nD τ sig → ℕ} (c : Dev nD) (a0 : Memref sig .tc .vmem S1024x512 .f32) (h0 : a0.IsWhole) (a1 : Memref sig .tc .vmem S512x1024 .f32) (h1 : a1.IsWhole)

/-- The program's first three parts, from what a device has as the kernel is entered to its own block sent both ways. -/
theorem opening {q₀ q₁ : PosShare TreeShare} {α : Type} {Q : α → sProp 𝕄} {k : (Σ' (_ : Dev nD) (_ : BitVec 32) (_ : BitVec 32), BitVec 32) → Prog (TpuEff nD τ sig (Elt F) Λ₀ .tc) α} :
    iprop(start m K c ∗ holds a0 c q₀ (xv m c) ∗ holds a1 c q₁ (bv m c))
      ⊢ iprop((∀ v2 v13 v24, iprop(first m K c ∗ holds a0 c q₀ (xv m c) ∗ holds a1 c q₁ (bv m c) ∗ semVal (c.tc, .reg barS) 0) -∗ run c (k ⟨c, v2, v13, v24⟩) Q)
        -∗ run c (here a0 h0 a1 h1 (k0_part1 (F := F)) >>= fun x => do
            let v32 ← here a0 h0 a1 h1 (k0_part2 (F := F)) x.1 x.2.2.1 x.2.2.2
            here a0 h0 a1 h1 (k0_part3 (F := F)) x.1 x.2.1 x.2.2.1 v32
            k x) Q) := by
  simp only [k0_part1_eq_skeleton, k0_part1_skel, k0_part2_eq_skeleton, k0_part2_skel, k0_part3_eq_skeleton, k0_part3_skel,
    semSignalWord, semWaitWord, Prog.lift, Prog.bind_op, Prog.bind_ret, Prog.pure_eq_ret]
  unfold start unsent resFree
  iintro ⟨⟨Ht, Bc, Bp, Tx, Fx, ⟨⟨T0, T1, T2, T3⟩, ⟨Tz0, Tz1, Tz2, Tz3⟩, ⟨Tp0, Tp1, Tp2, Tp3⟩, Tc⟩, ⟨⟨F0, F1, F2, F3⟩, ⟨Fz0, Fz1, Fz2, Fz3⟩, ⟨Fp0, Fp1, Fp2, Fp3⟩, Fc⟩,
    Hb, S0, S1, ⟨P00, P01, R0, R1⟩, R, Oo⟩, A0, A1⟩ Hk
  iapply (go_device c)
  iapply (go_enter m c false true rfl rfl rfl rfl (to_left c rfl)) $$ Ht T0 T1 T2
  iintro Ht
  iapply (go_enter m c true false rfl rfl rfl rfl (to_right c rfl)) $$ Ht F0 F1 F2
  iintro Ht
  iapply (go_barrier m c rfl rfl) $$ Ht Bc Bp
  iintro ⟨Ht, ⟨T0, T1, T2⟩, ⟨F0, F1, F2⟩, Bz⟩
  iapply (go_load_all c a0 (by decide)) $$ A0
  iintro A0
  iapply (go_load_all c a1 (by decide)) $$ A1
  iintro A1
  iapply (go_store_b c) $$ Hb
  iintro Hb
  iapply (go_store_own m c true rfl rfl) $$ T3
  iintro ⟨Tl, Tr⟩
  iapply (go_store_own m c false rfl rfl) $$ F3
  iintro ⟨Fl, Fr⟩
  iapply (go_give m c true 0 rfl rfl rfl (to_left c rfl)) $$ Ht
  iintro Ht
  iapply (go_give m c false 0 rfl rfl rfl (to_right c rfl)) $$ Ht
  iintro Ht
  iapply (go_take m c true 0 (by decide) (by decide) rfl rfl) $$ Ht Tx Tc
  iintro ⟨Ht, Tc⟩
  iapply (go_send m c true 0 rfl (by decide) (to_right c rfl) rfl rfl (sndS true (sl 0)) rfl rfl) $$ Ht Tr T0 Tz0
  iintro ⟨Ht, Tf⟩
  iapply (go_take m c false 0 (by decide) (by decide) rfl rfl) $$ Ht Fx Fc
  iintro ⟨Ht, Fc⟩
  iapply (go_send m c false 0 rfl (by decide) (to_left c rfl) rfl rfl (sndS false (sl 0)) rfl rfl) $$ Ht Fr F0 Fz0
  iintro ⟨Ht, Ff⟩
  iapply (go_load_b c) $$ Hb
  iintro Hb
  iapply (go_store_half c) $$ R0
  iintro R0
  iapply (go_copy c (resM 0 0) rfl (outM c) (out_own c) (putS 0 0) rfl wO rfl wO_pos) $$ R0 Oo P00
  iintro P00
  iapply Hk
  unfold first side resFree
  iframe
  iexact P00

end Cert.Ring
-- ==== Proof.HopsEarly.lean ====
/-
The first three hops: no slot is used twice yet.
-/
module

public import proofs.«01_k».proof.Proof.State

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

variable {K : GSem nD τ sig → ℕ} (c : Dev nD) (a0 : Memref sig .tc .vmem S1024x512 .f32) (h0 : a0.IsWhole) (a1 : Memref sig .tc .vmem S512x1024 .f32) (h1 : a1.IsWhole)
  (v2 v13 v24 : BitVec 32)

/-- Parts 4 to 17, from the device's own block sent to hop 3 sent. -/
theorem hops_early {α : Type} {Q : α → sProp 𝕄} {k : PUnit → Prog (TpuEff nD τ sig (Elt F) Λ₀ .tc) α} :
    iprop(first m K c ∗ need (F := F) 0 c ∗ need (F := F) 1 c ∗ need (F := F) 2 c)
      ⊢ iprop((iprop(mid m K 1 0 3 18 c ∗ holds (outM c) c fullShare (ownV m c) ∗ done m 1 c) -∗ run c (k ⟨⟩) Q)
        -∗ run c (here a0 h0 a1 h1 (k0_part4 (F := F)) c v13 v24 >>= fun _ => do
            here a0 h0 a1 h1 (k0_part5 (F := F)) c v13 v24
            here a0 h0 a1 h1 (k0_part6 (F := F)) c v13
            let ⟨v181, v183⟩ ← here a0 h0 a1 h1 (k0_part7 (F := F)) c v2
            here a0 h0 a1 h1 (k0_part8 (F := F)) c v24 v181 v183
            here a0 h0 a1 h1 (k0_part9 (F := F)) c v13 v24
            here a0 h0 a1 h1 (k0_part10 (F := F)) c v13 v24
            let v283 ← here a0 h0 a1 h1 (k0_part11 (F := F)) c
            here a0 h0 a1 h1 (k0_part12 (F := F)) c v2 v283
            here a0 h0 a1 h1 (k0_part13 (F := F)) c v13 v24
            here a0 h0 a1 h1 (k0_part14 (F := F)) c v13 v24
            here a0 h0 a1 h1 (k0_part15 (F := F)) c v13 v24
            let ⟨v415, c16⟩ ← here a0 h0 a1 h1 (k0_part16 (F := F)) c v2
            here a0 h0 a1 h1 (k0_part17 (F := F)) c v2 v415 c16 >>= k) Q) := by
  simp only [k0_part4_eq_skeleton, k0_part4_skel, k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel, k0_part15_eq_skeleton, k0_part15_skel,
    k0_part16_eq_skeleton, k0_part16_skel, k0_part17_eq_skeleton, k0_part17_skel, semSignalWord, semWaitWord, Prog.lift, Prog.bind_op, Prog.bind_ret, Prog.pure_eq_ret]
  unfold first side need outs idle resFree
  iintro ⟨⟨Ht, ⟨Tf, Tl, Tc, Tz1, Tz2, Tz3, Tp0, Tp1, Tp2, Tp3⟩, ⟨Ff, Fl, Fc, Fz1, Fz2, Fz3, Fp0, Fp1, Fp2, Fp3⟩, T1, T2, F1, F2,
    Hb, ⟨S0t, S0f, C00, C01⟩, ⟨S1t, S1f, C10, C11⟩, P00, P01, R01, ⟨P10, P11, R10, R11⟩⟩, ⟨Tw, Fw, Tx, Fx, Ot, Of⟩, ⟨Tw1, Fw1, Tx1, Fx1, Ot1, Of1⟩, ⟨Tw2, Fw2, Tx2, Fx2, Ot2, Of2⟩⟩ Hk
  -- the blocks of hop 0
  iapply (go_wait m c (sndS true (sl 0)) rfl (slotM true (sl 3)) rfl wN rfl) $$ Ht Tf
  iintro ⟨Ht, Tr, Tz0⟩
  iapply (go_receive m c true 0 (by decide) (by decide) rfl rfl) $$ Ht Tw Tp0
  iintro ⟨Ht, Tp0, Tr0, T0l, T0r, -⟩
  iapply (go_give m c true 1 rfl rfl rfl (to_left c rfl)) $$ Ht
  iintro Ht
  iapply (go_copy c (slotM true (sl 0)) rfl (cmpM 0 0) rfl (stgS true 0) rfl wN rfl wN_pos) $$ T0l C00 S0t
  iintro S0t
  iapply (go_wait m c (sndS false (sl 0)) rfl (slotM false (sl 3)) rfl wN rfl) $$ Ht Ff
  iintro ⟨Ht, Fr, Fz0⟩
  iapply (go_receive m c false 0 (by decide) (by decide) rfl rfl) $$ Ht Fw Fp0
  iintro ⟨Ht, Fp0, Fr0, F0l, F0r, -⟩
  iapply (go_give m c false 1 rfl rfl rfl (to_right c rfl)) $$ Ht
  iintro Ht
  iapply (go_copy c (slotM false (sl 0)) rfl (cmpM 0 1) rfl (stgS false 0) rfl wN rfl wN_pos) $$ F0l C01 S0f
  iintro S0f
  iapply (go_take m c true 1 (by decide) (by decide) rfl rfl) $$ Ht Tx Tc
  iintro ⟨Ht, Tc⟩
  iapply (go_send m c true 1 rfl (by decide) (to_right c rfl) rfl rfl (sndS true (sl 1)) rfl rfl) $$ Ht T0r T1 Tz1
  iintro ⟨Ht, Tf⟩
  iapply (go_take m c false 1 (by decide) (by decide) rfl rfl) $$ Ht Fx Fc
  iintro ⟨Ht, Fc⟩
  iapply (go_send m c false 1 rfl (by decide) (to_left c rfl) rfl rfl (sndS false (sl 1)) rfl rfl) $$ Ht F0r F1 Fz1
  iintro ⟨Ht, Ff⟩
  iapply (go_wait m c (stgS true 0) rfl (cmpM 0 0) rfl wN rfl) $$ Ht S0t
  iintro ⟨Ht, ⟨C00, T0l⟩, S0t⟩
  iapply (go_wait m c (stgS false 0) rfl (cmpM 0 1) rfl wN rfl) $$ Ht S0f
  iintro ⟨Ht, ⟨C01, F0l⟩, S0f⟩
  iapply (go_load_row c 0) $$ C00 C01
  iintro ⟨C00, C01⟩
  iapply (go_load_b c) $$ Hb
  iintro Hb
  iapply (go_store_row c 1) $$ R10 R11
  iintro ⟨R10, R11⟩
  iapply (go_copy c (resM 1 0) rfl (outM (org true 1 c)) (out_cw c 0) (putS 1 0) rfl wO rfl wO_pos) $$ R10 Ot P10
  iintro P10
  iapply (go_copy c (resM 1 1) rfl (outM (org false 1 c)) (out_ccw c 0) (putS 1 1) rfl wO rfl wO_pos) $$ R11 Of P11
  iintro P11
  -- those of hop 1
  iapply (go_wait m c (sndS true (sl 1)) rfl (slotM true (sl 0)) rfl wN rfl) $$ Ht Tf
  iintro ⟨Ht, T0r, Tz1⟩
  iapply (go_receive m c true 1 (by decide) (by decide) rfl rfl) $$ Ht Tw1 Tp1
  iintro ⟨Ht, Tp1, Tr1, T1l, T1r, -⟩
  iapply (go_give m c true 2 rfl rfl rfl (to_left c rfl)) $$ Ht
  iintro Ht
  iapply (go_copy c (slotM true (sl 1)) rfl (cmpM 1 0) rfl (stgS true 1) rfl wN rfl wN_pos) $$ T1l C10 S1t
  iintro S1t
  iapply (go_wait m c (sndS false (sl 1)) rfl (slotM false (sl 0)) rfl wN rfl) $$ Ht Ff
  iintro ⟨Ht, F0r, Fz1⟩
  iapply (go_receive m c false 1 (by decide) (by decide) rfl rfl) $$ Ht Fw1 Fp1
  iintro ⟨Ht, Fp1, Fr1, F1l, F1r, -⟩
  iapply (go_give m c false 2 rfl rfl rfl (to_right c rfl)) $$ Ht
  iintro Ht
  iapply (go_copy c (slotM false (sl 1)) rfl (cmpM 1 1) rfl (stgS false 1) rfl wN rfl wN_pos) $$ F1l C11 S1f
  iintro S1f
  iapply (go_take m c true 2 (by decide) (by decide) rfl rfl) $$ Ht Tx1 Tc
  iintro ⟨Ht, Tc⟩
  ihave ⟨Ht, Fr3⟩ := (on_reached m c (site_rcv_mem false 3 (by decide))) $$ Ht
  iapply (go_send_carry m c true false rfl 2 rfl (by decide) (to_right c rfl) rfl rfl (sndS true (sl 2)) rfl rfl) $$ Ht T1r T2 Tz2 Fl Fr Fr3
  iintro ⟨Ht, Tf⟩
  iapply (go_take m c false 2 (by decide) (by decide) rfl rfl) $$ Ht Fx1 Fc
  iintro ⟨Ht, Fc⟩
  ihave ⟨Ht, Tr3⟩ := (on_reached m c (site_rcv_mem true 3 (by decide))) $$ Ht
  iapply (go_send_carry m c false true rfl 2 rfl (by decide) (to_left c rfl) rfl rfl (sndS false (sl 2)) rfl rfl) $$ Ht F1r F2 Fz2 Tl Tr Tr3
  iintro ⟨Ht, Ff⟩
  iapply (go_wait m c (putS 0 0) rfl (outM c) (out_own c) wO rfl) $$ Ht P00
  iintro ⟨Ht, ⟨Do, R00⟩, P00⟩
  iapply (go_wait m c (stgS true 1) rfl (cmpM 1 0) rfl wN rfl) $$ Ht S1t
  iintro ⟨Ht, ⟨C10, T1l⟩, S1t⟩
  iapply (go_wait m c (stgS false 1) rfl (cmpM 1 1) rfl wN rfl) $$ Ht S1f
  iintro ⟨Ht, ⟨C11, F1l⟩, S1f⟩
  iapply (go_load_row c 1) $$ C10 C11
  iintro ⟨C10, C11⟩
  iapply (go_load_b c) $$ Hb
  iintro Hb
  ihave R00 := (any_intro c _) $$ R00
  iapply (go_store_row c 0) $$ R00 R01
  iintro ⟨R00, R01⟩
  iapply (go_copy c (resM 0 0) rfl (outM (org true 2 c)) (out_cw c 1) (putS 0 0) rfl wO rfl wO_pos) $$ R00 Ot1 P00
  iintro P00
  iapply (go_copy c (resM 0 1) rfl (outM (org false 2 c)) (out_ccw c 1) (putS 0 1) rfl wO rfl wO_pos) $$ R01 Of1 P01
  iintro P01
  -- those of hop 2, with which the leave for slot 3 comes
  iapply (go_wait m c (sndS true (sl 2)) rfl (slotM true (sl 1)) rfl wN rfl) $$ Ht Tf
  iintro ⟨Ht, T1r, Tz2⟩
  iapply (go_receive_free m c true false rfl 2 (by decide) (by decide) (by decide) rfl rfl) $$ Ht Tw2 Tp2
  iintro ⟨Ht, Tp2, Tr2, T2l, T2r, Ffree⟩
  iapply (go_give m c true 3 rfl rfl rfl (to_left c rfl)) $$ Ht
  iintro Ht
  iapply (go_copy c (slotM true (sl 2)) rfl (cmpM 0 0) rfl (stgS true 0) rfl wN rfl wN_pos) $$ T2l C00 S0t
  iintro S0t
  iapply (go_wait m c (sndS false (sl 2)) rfl (slotM false (sl 1)) rfl wN rfl) $$ Ht Ff
  iintro ⟨Ht, F1r, Fz2⟩
  iapply (go_receive_free m c false true rfl 2 (by decide) (by decide) (by decide) rfl rfl) $$ Ht Fw2 Fp2
  iintro ⟨Ht, Fp2, Fr2, F2l, F2r, Tfree⟩
  iapply (go_give m c false 3 rfl rfl rfl (to_right c rfl)) $$ Ht
  iintro Ht
  iapply (go_copy c (slotM false (sl 2)) rfl (cmpM 0 1) rfl (stgS false 0) rfl wN rfl wN_pos) $$ F2l C01 S0f
  iintro S0f
  iapply (go_take m c true 3 (by decide) (by decide) rfl rfl) $$ Ht Tx2 Tc
  iintro ⟨Ht, Tc⟩
  iapply (go_send_carry m c true false rfl 3 rfl (by decide) (to_right c rfl) rfl rfl (sndS true (sl 3)) rfl rfl) $$ Ht T2r Tfree Tz3 F0l F0r Fr0
  iintro ⟨Ht, Tf⟩
  iapply (go_take m c false 3 (by decide) (by decide) rfl rfl) $$ Ht Fx2 Fc
  iintro ⟨Ht, Fc⟩
  iapply (go_send_carry m c false true rfl 3 rfl (by decide) (to_left c rfl) rfl rfl (sndS false (sl 3)) rfl rfl) $$ Ht F2r Ffree Fz3 T0l T0r Tr0
  iintro ⟨Ht, Ff⟩
  iapply (go_wait m c (putS 1 0) rfl (outM (org true 1 c)) (out_cw c 0) wO rfl) $$ Ht P10
  iintro ⟨Ht, ⟨D0, R10⟩, P10⟩
  iapply (go_wait m c (putS 1 1) rfl (outM (org false 1 c)) (out_ccw c 0) wO rfl) $$ Ht P11
  iintro ⟨Ht, ⟨D1, R11⟩, P11⟩
  iapply (go_wait m c (stgS true 0) rfl (cmpM 0 0) rfl wN rfl) $$ Ht S0t
  iintro ⟨Ht, ⟨C00, T2l⟩, S0t⟩
  iapply (go_wait m c (stgS false 0) rfl (cmpM 0 1) rfl wN rfl) $$ Ht S0f
  iintro ⟨Ht, ⟨C01, F2l⟩, S0f⟩
  iapply (go_load_row c 0) $$ C00 C01
  iintro ⟨C00, C01⟩
  iapply (go_load_b c) $$ Hb
  iintro Hb
  ihave R10 := (any_intro c _) $$ R10
  ihave R11 := (any_intro c _) $$ R11
  iapply (go_store_row c 1) $$ R10 R11
  iintro ⟨R10, R11⟩
  iapply (go_copy c (resM 1 0) rfl (outM (org true 3 c)) (out_cw c 2) (putS 1 0) rfl wO rfl wO_pos) $$ R10 Ot2 P10
  iintro P10
  iapply (go_copy c (resM 1 1) rfl (outM (org false 3 c)) (out_ccw c 2) (putS 1 1) rfl wO rfl wO_pos) $$ R11 Of2 P11
  iintro P11
  iapply Hk
  unfold mid side kept idle resBusy done
  iframe
  isplitl [P10 P11 P00 P01]
  · isplitl [P10 P11]
    · isplitl [P10]; · iexact P10
      iexact P11
    isplitl [P00]; · iexact P00
    iexact P01
  isplitl [D0]; · iexact D0
  iexact D1

end Cert.Ring
-- ==== Proof.HopsMid.lean ====
/-
The two hops between, each taking every buffer from one round of its use to the next.
-/
module

public import proofs.«01_k».proof.Proof.State

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

variable {K : GSem nD τ sig → ℕ} (c : Dev nD) (a0 : Memref sig .tc .vmem S1024x512 .f32) (h0 : a0.IsWhole) (a1 : Memref sig .tc .vmem S512x1024 .f32) (h1 : a1.IsWhole)
  (v2 v13 v24 : BitVec 32)

/-- Parts 18 to 22: the blocks of hop 3 received and hop 4 sent. -/
theorem hop_three {α : Type} {Q : α → sProp 𝕄} {k : PUnit → Prog (TpuEff nD τ sig (Elt F) Λ₀ .tc) α} :
    iprop(mid m K 1 0 3 18 c ∗ need (F := F) 3 c)
      ⊢ iprop((iprop(mid m K 0 1 4 22 c ∗ done m 2 c) -∗ run c (k ⟨⟩) Q)
        -∗ run c (here a0 h0 a1 h1 (k0_part18 (F := F)) c v13 v24 >>= fun _ => do
            let v493 ← here a0 h0 a1 h1 (k0_part19 (F := F)) c v13 v24
            here a0 h0 a1 h1 (k0_part20 (F := F)) c v13 v493
            let ⟨v545, v546, v547⟩ ← here a0 h0 a1 h1 (k0_part21 (F := F)) c v2
            here a0 h0 a1 h1 (k0_part22 (F := F)) c v2 v545 v546 v547 >>= k) Q) := by
  simp only [k0_part18_eq_skeleton, k0_part18_skel, k0_part19_eq_skeleton, k0_part19_skel, k0_part20_eq_skeleton, k0_part20_skel,
    k0_part21_eq_skeleton, k0_part21_skel, k0_part22_eq_skeleton, k0_part22_skel, semSignalWord, semWaitWord, Prog.lift, Prog.bind_op, Prog.bind_ret, Prog.pure_eq_ret]
  unfold mid side kept need outs idle resBusy done
  iintro ⟨⟨Ht, ⟨Tf, Tl, Tc, Tz1, Tz2, Tz3, Tp0, Tp1, Tp2, Tp3⟩, ⟨Ff, Fl, Fc, Fz1, Fz2, Fz3, Fp0, Fp1, Fp2, Fp3⟩, ⟨Tkl, Tkr, Tr2, Tr3⟩, ⟨Fkl, Fkr, Fr2, Fr3⟩,
    Hb, ⟨S0t, S0f, C00, C01⟩, ⟨S1t, S1f, C10, C11⟩, ⟨P10, P11⟩, ⟨P00, P01⟩⟩, ⟨Tw, Fw, Tx, Fx, Ot, Of⟩⟩ Hk
  iapply (go_wait m c (sndS true (sl 3)) rfl (slotM true (sl 2)) rfl wN rfl) $$ Ht Tf
  iintro ⟨Ht, Tr, Tz0⟩
  iapply (go_receive_free m c true false rfl 3 (by decide) (by decide) (by decide) rfl rfl) $$ Ht Tw Tp0
  iintro ⟨Ht, Tp0, Tr4, T3l, T3r, Ffree⟩
  iapply (go_give m c true 4 rfl rfl rfl (to_left c rfl)) $$ Ht
  iintro Ht
  iapply (go_copy c (slotM true (sl 3)) rfl (cmpM 1 0) rfl (stgS true 1) rfl wN rfl wN_pos) $$ T3l C10 S1t
  iintro S1t
  iapply (go_wait m c (sndS false (sl 3)) rfl (slotM false (sl 2)) rfl wN rfl) $$ Ht Ff
  iintro ⟨Ht, Fr, Fz0⟩
  iapply (go_receive_free m c false true rfl 3 (by decide) (by decide) (by decide) rfl rfl) $$ Ht Fw Fp0
  iintro ⟨Ht, Fp0, Fr4, F3l, F3r, Tfree⟩
  iapply (go_give m c false 4 rfl rfl rfl (to_right c rfl)) $$ Ht
  iintro Ht
  iapply (go_copy c (slotM false (sl 3)) rfl (cmpM 1 1) rfl (stgS false 1) rfl wN rfl wN_pos) $$ F3l C11 S1f
  iintro S1f
  iapply (go_take m c true 4 (by decide) (by decide) rfl rfl) $$ Ht Tx Tc
  iintro ⟨Ht, Tc⟩
  iapply (go_send_carry m c true false rfl 4 rfl (by decide) (to_right c rfl) rfl rfl (sndS true (sl 4)) rfl rfl) $$ Ht T3r Tfree Tz1 Fkl Fkr Fr2
  iintro ⟨Ht, Tf⟩
  iapply (go_take m c false 4 (by decide) (by decide) rfl rfl) $$ Ht Fx Fc
  iintro ⟨Ht, Fc⟩
  iapply (go_send_carry m c false true rfl 4 rfl (by decide) (to_left c rfl) rfl rfl (sndS false (sl 4)) rfl rfl) $$ Ht F3r Ffree Fz1 Tkl Tkr Tr2
  iintro ⟨Ht, Ff⟩
  iapply (go_wait m c (putS 0 0) rfl (outM (org true 2 c)) (out_cw c 1) wO rfl) $$ Ht P00
  iintro ⟨Ht, ⟨D0, R0⟩, P00⟩
  iapply (go_wait m c (putS 0 1) rfl (outM (org false 2 c)) (out_ccw c 1) wO rfl) $$ Ht P01
  iintro ⟨Ht, ⟨D1, R1⟩, P01⟩
  iapply (go_wait m c (stgS true 1) rfl (cmpM 1 0) rfl wN rfl) $$ Ht S1t
  iintro ⟨Ht, ⟨C10, T3l⟩, S1t⟩
  iapply (go_wait m c (stgS false 1) rfl (cmpM 1 1) rfl wN rfl) $$ Ht S1f
  iintro ⟨Ht, ⟨C11, F3l⟩, S1f⟩
  iapply (go_load_row c 1) $$ C10 C11
  iintro ⟨C10, C11⟩
  iapply (go_load_b c) $$ Hb
  iintro Hb
  ihave R0 := (any_intro c _) $$ R0
  ihave R1 := (any_intro c _) $$ R1
  iapply (go_store_row c 0) $$ R0 R1
  iintro ⟨R0, R1⟩
  iapply (go_copy c (resM 0 0) rfl (outM (org true 4 c)) (out_cw c 3) (putS 0 0) rfl wO rfl wO_pos) $$ R0 Ot P00
  iintro P00
  iapply (go_copy c (resM 0 1) rfl (outM (org false 4 c)) (out_ccw c 3) (putS 0 1) rfl wO rfl wO_pos) $$ R1 Of P01
  iintro P01
  iapply Hk
  iframe
  isplitl [P00]; · iexact P00
  iexact P01

/-- Parts 23 to 27: the blocks of hop 4 received and hop 5 sent. -/
theorem hop_four {α : Type} {Q : α → sProp 𝕄} {k : PUnit → Prog (TpuEff nD τ sig (Elt F) Λ₀ .tc) α} :
    iprop(mid m K 0 1 4 22 c ∗ need (F := F) 4 c)
      ⊢ iprop((iprop(mid m K 1 0 5 26 c ∗ done m 3 c) -∗ run c (k ⟨⟩) Q)
        -∗ run c (here a0 h0 a1 h1 (k0_part23 (F := F)) c v13 v24 >>= fun _ => do
            here a0 h0 a1 h1 (k0_part24 (F := F)) c v13 v24
            here a0 h0 a1 h1 (k0_part25 (F := F)) c v13
            let ⟨v674, v679, v680⟩ ← here a0 h0 a1 h1 (k0_part26 (F := F)) v2
            here a0 h0 a1 h1 (k0_part27 (F := F)) c v2 v674 v679 v680 >>= k) Q) := by
  simp only [k0_part23_eq_skeleton, k0_part23_skel, k0_part24_eq_skeleton, k0_part24_skel, k0_part25_eq_skeleton, k0_part25_skel,
    k0_part26_eq_skeleton, k0_part26_skel, k0_part27_eq_skeleton, k0_part27_skel, semSignalWord, semWaitWord, Prog.lift, Prog.bind_op, Prog.bind_ret, Prog.pure_eq_ret]
  unfold mid side kept need outs idle resBusy done
  iintro ⟨⟨Ht, ⟨Tf, Tl, Tc, Tz1, Tz2, Tz3, Tp0, Tp1, Tp2, Tp3⟩, ⟨Ff, Fl, Fc, Fz1, Fz2, Fz3, Fp0, Fp1, Fp2, Fp3⟩, ⟨Tkl, Tkr, Tr2, Tr3⟩, ⟨Fkl, Fkr, Fr2, Fr3⟩,
    Hb, ⟨S0t, S0f, C00, C01⟩, ⟨S1t, S1f, C10, C11⟩, ⟨P00, P01⟩, ⟨P10, P11⟩⟩, ⟨Tw, Fw, Tx, Fx, Ot, Of⟩⟩ Hk
  iapply (go_wait m c (sndS true (sl 4)) rfl (slotM true (sl 3)) rfl wN rfl) $$ Ht Tf
  iintro ⟨Ht, Tr, Tz0⟩
  iapply (go_receive_free m c true false rfl 4 (by decide) (by decide) (by decide) rfl rfl) $$ Ht Tw Tp0
  iintro ⟨Ht, Tp0, Tr4, T4l, T4r, Ffree⟩
  iapply (go_give m c true 5 rfl rfl rfl (to_left c rfl)) $$ Ht
  iintro Ht
  iapply (go_copy c (slotM true (sl 4)) rfl (cmpM 0 0) rfl (stgS true 0) rfl wN rfl wN_pos) $$ T4l C00 S0t
  iintro S0t
  iapply (go_wait m c (sndS false (sl 4)) rfl (slotM false (sl 3)) rfl wN rfl) $$ Ht Ff
  iintro ⟨Ht, Fr, Fz0⟩
  iapply (go_receive_free m c false true rfl 4 (by decide) (by decide) (by decide) rfl rfl) $$ Ht Fw Fp0
  iintro ⟨Ht, Fp0, Fr4, F4l, F4r, Tfree⟩
  iapply (go_give m c false 5 rfl rfl rfl (to_right c rfl)) $$ Ht
  iintro Ht
  iapply (go_copy c (slotM false (sl 4)) rfl (cmpM 0 1) rfl (stgS false 0) rfl wN rfl wN_pos) $$ F4l C01 S0f
  iintro S0f
  iapply (go_take m c true 5 (by decide) (by decide) rfl rfl) $$ Ht Tx Tc
  iintro ⟨Ht, Tc⟩
  iapply (go_send_carry m c true false rfl 5 rfl (by decide) (to_right c rfl) rfl rfl (sndS true (sl 5)) rfl rfl) $$ Ht T4r Tfree Tz1 Fkl Fkr Fr2
  iintro ⟨Ht, Tf⟩
  iapply (go_take m c false 5 (by decide) (by decide) rfl rfl) $$ Ht Fx Fc
  iintro ⟨Ht, Fc⟩
  iapply (go_send_carry m c false true rfl 5 rfl (by decide) (to_left c rfl) rfl rfl (sndS false (sl 5)) rfl rfl) $$ Ht F4r Ffree Fz1 Tkl Tkr Tr2
  iintro ⟨Ht, Ff⟩
  iapply (go_wait m c (putS 1 0) rfl (outM (org true 3 c)) (out_cw c 2) wO rfl) $$ Ht P10
  iintro ⟨Ht, ⟨D0, R0⟩, P10⟩
  iapply (go_wait m c (putS 1 1) rfl (outM (org false 3 c)) (out_ccw c 2) wO rfl) $$ Ht P11
  iintro ⟨Ht, ⟨D1, R1⟩, P11⟩
  iapply (go_wait m c (stgS true 0) rfl (cmpM 0 0) rfl wN rfl) $$ Ht S0t
  iintro ⟨Ht, ⟨C00, T4l⟩, S0t⟩
  iapply (go_wait m c (stgS false 0) rfl (cmpM 0 1) rfl wN rfl) $$ Ht S0f
  iintro ⟨Ht, ⟨C01, F4l⟩, S0f⟩
  iapply (go_load_row c 0) $$ C00 C01
  iintro ⟨C00, C01⟩
  iapply (go_load_b c) $$ Hb
  iintro Hb
  ihave R0 := (any_intro c _) $$ R0
  ihave R1 := (any_intro c _) $$ R1
  iapply (go_store_row c 1) $$ R0 R1
  iintro ⟨R0, R1⟩
  iapply (go_copy c (resM 1 0) rfl (outM (org true 5 c)) (out_cw c 4) (putS 1 0) rfl wO rfl wO_pos) $$ R0 Ot P10
  iintro P10
  iapply (go_copy c (resM 1 1) rfl (outM (org false 5 c)) (out_ccw c 4) (putS 1 1) rfl wO rfl wO_pos) $$ R1 Of P11
  iintro P11
  iapply Hk
  iframe
  isplitl [P10]; · iexact P10
  iexact P11

end Cert.Ring
-- ==== Proof.HopsLate.lean ====
/-
The last hops, whose blocks are not all sent on.
-/
module

public import proofs.«01_k».proof.Proof.State

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

variable {K : GSem nD τ sig → ℕ} (c : Dev nD) (a0 : Memref sig .tc .vmem S1024x512 .f32) (h0 : a0.IsWhole) (a1 : Memref sig .tc .vmem S512x1024 .f32) (h1 : a1.IsWhole)
  (v2 v13 v24 : BitVec 32)

/-- Parts 28 to 38, from hop 5 sent to the last block's product put on its way out. -/
theorem hops_late {α : Type} {Q : α → sProp 𝕄} {k : PUnit → Prog (TpuEff nD τ sig (Elt F) Λ₀ .tc) α} :
    iprop(mid m K 1 0 5 26 c ∗ need (F := F) 5 c ∗ needLast (F := F) c)
      ⊢ iprop((iprop(last m K c ∗ done m 4 c ∗ done m 5 c) -∗ run c (k ⟨⟩) Q)
        -∗ run c (here a0 h0 a1 h1 (k0_part28 (F := F)) c v13 v24 >>= fun _ => do
            here a0 h0 a1 h1 (k0_part29 (F := F)) c v13 v24
            here a0 h0 a1 h1 (k0_part30 (F := F)) c v13
            here a0 h0 a1 h1 (k0_part31 (F := F)) c v2
            here a0 h0 a1 h1 (k0_part32 (F := F)) c v2 v24
            here a0 h0 a1 h1 (k0_part33 (F := F)) v13
            here a0 h0 a1 h1 (k0_part34 (F := F)) c v24
            let ⟨v913, v914, v915, v916, c0⟩ ← here a0 h0 a1 h1 (k0_part35 (F := F)) v2
            here a0 h0 a1 h1 (k0_part36 (F := F)) c v2 v913 v914 v915 v916 c0
            here a0 h0 a1 h1 (k0_part37 (F := F)) c v24
            here a0 h0 a1 h1 (k0_part38 (F := F)) c v2 >>= k) Q) := by
  simp only [k0_part28_eq_skeleton, k0_part28_skel, k0_part29_eq_skeleton, k0_part29_skel, k0_part30_eq_skeleton, k0_part30_skel, k0_part31_eq_skeleton, k0_part31_skel,
    k0_part32_eq_skeleton, k0_part32_skel, k0_part33_eq_skeleton, k0_part33_skel, k0_part34_eq_skeleton, k0_part34_skel, k0_part35_eq_skeleton, k0_part35_skel,
    k0_part36_eq_skeleton, k0_part36_skel, k0_part37_eq_skeleton, k0_part37_skel, k0_part38_eq_skeleton, k0_part38_skel,
    semSignalWord, semWaitWord, Prog.lift, Prog.bind_op, Prog.bind_ret, Prog.pure_eq_ret]
  unfold mid side kept need needLast outs idle resBusy done
  iintro ⟨⟨Ht, ⟨Tf, Tl, Tc, Tz1, Tz2, Tz3, Tp0, Tp1, Tp2, Tp3⟩, ⟨Ff, Fl, Fc, Fz1, Fz2, Fz3, Fp0, Fp1, Fp2, Fp3⟩, ⟨Tkl, Tkr, Tr2, -⟩, ⟨Fkl, Fkr, -, -⟩,
    Hb, ⟨S0t, S0f, C00, C01⟩, ⟨S1t, S1f, C10, C11⟩, ⟨P10, P11⟩, ⟨P00, P01⟩⟩, ⟨Tw, Fw, Tx, Fx, Ot, Of⟩, ⟨Tw6, Fw6, Tx7, ⟨Ot7, Of7⟩, Tw7, Ot8⟩⟩ Hk
  -- the blocks of hop 5
  iapply (go_wait m c (sndS true (sl 5)) rfl (slotM true (sl 4)) rfl wN rfl) $$ Ht Tf
  iintro ⟨Ht, Tr, Tz0⟩
  iapply (go_receive_free m c true false rfl 5 (by decide) (by decide) (by decide) rfl rfl) $$ Ht Tw Tp0
  iintro ⟨Ht, Tp0, -, T5l, T5r, Ffree⟩
  iapply (go_give m c true 6 rfl rfl rfl (to_left c rfl)) $$ Ht
  iintro Ht
  iapply (go_copy c (slotM true (sl 5)) rfl (cmpM 1 0) rfl (stgS true 1) rfl wN rfl wN_pos) $$ T5l C10 S1t
  iintro S1t
  iapply (go_wait m c (sndS false (sl 5)) rfl (slotM false (sl 4)) rfl wN rfl) $$ Ht Ff
  iintro ⟨Ht, Fr, Fz0⟩
  iapply (go_receive_free m c false true rfl 5 (by decide) (by decide) (by decide) rfl rfl) $$ Ht Fw Fp0
  iintro ⟨Ht, Fp0, -, F5l, F5r, Tfree⟩
  iapply (go_copy c (slotM false (sl 5)) rfl (cmpM 1 1) rfl (stgS false 1) rfl wN rfl wN_pos) $$ F5l C11 S1f
  iintro S1f
  iapply (go_take m c true 6 (by decide) (by decide) rfl rfl) $$ Ht Tx Tc
  iintro ⟨Ht, Tc⟩
  iapply (go_send m c true 6 rfl (by decide) (to_right c rfl) rfl rfl (sndS true (sl 6)) rfl rfl) $$ Ht T5r Tfree Tz1
  iintro ⟨Ht, Tf⟩
  iapply (go_take_last m c false 6 (by decide) (by decide) rfl rfl) $$ Ht Fx Fc
  iintro ⟨Ht, Fc⟩
  iapply (go_send_carry m c false true rfl 6 rfl (by decide) (to_left c rfl) rfl rfl (sndS false (sl 6)) rfl rfl) $$ Ht F5r Ffree Fz1 Tkl Tkr Tr2
  iintro ⟨Ht, Ff⟩
  iapply (go_wait m c (putS 0 0) rfl (outM (org true 4 c)) (out_cw c 3) wO rfl) $$ Ht P00
  iintro ⟨Ht, ⟨D40, R0⟩, P00⟩
  iapply (go_wait m c (putS 0 1) rfl (outM (org false 4 c)) (out_ccw c 3) wO rfl) $$ Ht P01
  iintro ⟨Ht, ⟨D41, R1⟩, P01⟩
  iapply (go_wait m c (stgS true 1) rfl (cmpM 1 0) rfl wN rfl) $$ Ht S1t
  iintro ⟨Ht, ⟨C10, T5l⟩, S1t⟩
  iapply (go_wait m c (stgS false 1) rfl (cmpM 1 1) rfl wN rfl) $$ Ht S1f
  iintro ⟨Ht, ⟨C11, F5l⟩, S1f⟩
  iapply (go_load_row c 1) $$ C10 C11
  iintro ⟨C10, C11⟩
  iapply (go_load_b c) $$ Hb
  iintro Hb
  ihave R0 := (any_intro c _) $$ R0
  ihave R1 := (any_intro c _) $$ R1
  iapply (go_store_row c 0) $$ R0 R1
  iintro ⟨R0, R1⟩
  iapply (go_copy c (resM 0 0) rfl (outM (org true 6 c)) (out_cw c 5) (putS 0 0) rfl wO rfl wO_pos) $$ R0 Ot P00
  iintro P00
  iapply (go_copy c (resM 0 1) rfl (outM (org false 6 c)) (out_ccw c 5) (putS 0 1) rfl wO rfl wO_pos) $$ R1 Of P01
  iintro P01
  -- those of hop 6, of which one is sent on
  iapply (go_wait m c (sndS true (sl 6)) rfl (slotM true (sl 5)) rfl wN rfl) $$ Ht Tf
  iintro ⟨Ht, T5r, Tz1⟩
  iapply (go_receive m c true 6 (by decide) (by decide) rfl rfl) $$ Ht Tw6 Tp1
  iintro ⟨Ht, Tp1, -, T6l, T6r, -⟩
  iapply (go_copy c (slotM true (sl 6)) rfl (cmpM 0 0) rfl (stgS true 0) rfl wN rfl wN_pos) $$ T6l C00 S0t
  iintro S0t
  iapply (go_wait m c (sndS false (sl 6)) rfl (slotM false (sl 5)) rfl wN rfl) $$ Ht Ff
  iintro ⟨Ht, F5r, Fz1⟩
  iapply (go_receive_free m c false true rfl 6 (by decide) (by decide) (by decide) rfl rfl) $$ Ht Fw6 Fp1
  iintro ⟨Ht, Fp1, -, F6l, F6r, Tfree⟩
  iapply (go_copy c (slotM false (sl 6)) rfl (cmpM 0 1) rfl (stgS false 0) rfl wN rfl wN_pos) $$ F6l C01 S0f
  iintro S0f
  iapply (go_take_last m c true 7 (by decide) (by decide) rfl rfl) $$ Ht Tx7 Tc
  iintro ⟨Ht, Tc⟩
  iapply (go_send m c true 7 rfl (by decide) (to_right c rfl) rfl rfl (sndS true (sl 7)) rfl rfl) $$ Ht T6r Tfree Tz2
  iintro ⟨Ht, Tf⟩
  iapply (go_wait m c (putS 1 0) rfl (outM (org true 5 c)) (out_cw c 4) wO rfl) $$ Ht P10
  iintro ⟨Ht, ⟨D50, R0⟩, P10⟩
  iapply (go_wait m c (putS 1 1) rfl (outM (org false 5 c)) (out_ccw c 4) wO rfl) $$ Ht P11
  iintro ⟨Ht, ⟨D51, R1⟩, P11⟩
  iapply (go_wait m c (stgS true 0) rfl (cmpM 0 0) rfl wN rfl) $$ Ht S0t
  iintro ⟨Ht, ⟨C00, T6l⟩, S0t⟩
  iapply (go_wait m c (stgS false 0) rfl (cmpM 0 1) rfl wN rfl) $$ Ht S0f
  iintro ⟨Ht, ⟨C01, F6l⟩, S0f⟩
  iapply (go_load_row c 0) $$ C00 C01
  iintro ⟨C00, C01⟩
  iapply (go_load_b c) $$ Hb
  iintro Hb
  ihave R0 := (any_intro c _) $$ R0
  ihave R1 := (any_intro c _) $$ R1
  iapply (go_store_row c 1) $$ R0 R1
  iintro ⟨R0, R1⟩
  iapply (go_copy c (resM 1 0) rfl (outM (org true 7 c)) (out_cw c 6) (putS 1 0) rfl wO rfl wO_pos) $$ R0 Ot7 P10
  iintro P10
  iapply (go_copy c (resM 1 1) rfl (outM (org false 7 c)) (out_ccw c 6) (putS 1 1) rfl wO rfl wO_pos) $$ R1 Of7 P11
  iintro P11
  -- the last block
  iapply (go_wait m c (sndS true (sl 7)) rfl (slotM true (sl 6)) rfl wN rfl) $$ Ht Tf
  iintro ⟨Ht, T6r, Tz2⟩
  iapply (go_receive m c true 7 (by decide) (by decide) rfl rfl) $$ Ht Tw7 Tp2
  iintro ⟨Ht, Tp2, -, T7l, T7r, -⟩
  iapply (go_copy c (slotM true (sl 7)) rfl (cmpM 1 0) rfl (stgS true 1) rfl wN rfl wN_pos) $$ T7l C10 S1t
  iintro S1t
  iapply (go_wait m c (putS 0 0) rfl (outM (org true 6 c)) (out_cw c 5) wO rfl) $$ Ht P00
  iintro ⟨Ht, ⟨D60, R0⟩, P00⟩
  iapply (go_wait m c (stgS true 1) rfl (cmpM 1 0) rfl wN rfl) $$ Ht S1t
  iintro ⟨Ht, ⟨C10, T7l⟩, S1t⟩
  iapply (go_load_quarter c) $$ C10
  iintro C10
  iapply (go_load_b c) $$ Hb
  iintro Hb
  ihave R0 := (any_intro c _) $$ R0
  iapply (go_store_half c) $$ R0
  iintro R0
  iapply (go_copy c (resM 0 0) rfl (outM (org true 8 c)) (out_cw c 7) (putS 0 0) rfl wO rfl wO_pos) $$ R0 Ot8 P00
  iintro P00
  iapply Hk
  ihave T0 := (rejoin c (slotM true (sl 0)) _) $$ Tl Tr
  ihave T1 := (rejoin c (slotM true (sl 1)) _) $$ T5l T5r
  ihave T2 := (rejoin c (slotM true (sl 2)) _) $$ T6l T6r
  ihave T3 := (rejoin c (slotM true (sl 3)) _) $$ T7l T7r
  ihave F0 := (rejoin c (slotM false (sl 0)) _) $$ Fl Fr
  ihave F1 := (rejoin c (slotM false (sl 1)) _) $$ F5l F5r
  ihave F2 := (rejoin c (slotM false (sl 2)) _) $$ F6l F6r
  ihave F3 := (rejoin c (slotM false (sl 3)) _) $$ Fkl Fkr
  unfold last ended received idle resBusy
  iframe
  isplitl [P10 P11]
  · isplitl [P10]; · iexact P10
    iexact P11
  isplitl [P01]; · iexact P01
  isplitl [P00]; · iexact P00
  iexact D60

end Cert.Ring
-- ==== Proof.Body.lean ====
/-
The body's run, its stretches one after the other.
-/
module

public import proofs.«01_k».proof.Proof.Opening
public import proofs.«01_k».proof.Proof.HopsEarly
public import proofs.«01_k».proof.Proof.HopsMid
public import proofs.«01_k».proof.Proof.HopsLate

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

variable {K : GSem nD τ sig → ℕ} (c : Dev nD) (a0 : Memref sig .tc .vmem S1024x512 .f32) (h0 : a0.IsWhole) (a1 : Memref sig .tc .vmem S512x1024 .f32) (h1 : a1.IsWhole)

/-- What the hops' waits take, hop by hop. -/
def needs (c : Dev nD) : sProp 𝕄 :=
  iprop(need (F := F) 0 c ∗ need (F := F) 1 c ∗ need (F := F) 2 c ∗ need (F := F) 3 c ∗ need (F := F) 4 c ∗ need (F := F) 5 c ∗ needLast (F := F) c)

/-- The output written, block by block. -/
def wrote (c : Dev nD) : sProp 𝕄 :=
  iprop(holds (outM c) c fullShare (ownV m c) ∗ done m 1 c ∗ done m 2 c ∗ done m 3 c ∗ done m 4 c ∗ done m 5 c ∗ done m 6 c ∗ done m 7 c
    ∗ holds (outM (org true 8 c)) c fullShare (farV m c))

/-- The device at the end of the run, the operands' windows apart. -/
def finish (K : GSem nD τ sig → ℕ) (c : Dev nD) : sProp 𝕄 :=
  iprop(on m K c 30 ∗ ended (F := F) true c ∗ ended (F := F) false c ∗ received (F := F) c ∗ holds bM c fullShare (bbf m c) ∗ idle (F := F) 0 c ∗ idle (F := F) 1 c
    ∗ resFree (F := F) 0 c ∗ resFree (F := F) 1 c ∗ wrote m c ∗ semVal (c.tc, .reg barS) 0)

/-- The body's run. -/
theorem body_run {q₀ q₁ : PosShare TreeShare} {Q : PUnit → sProp 𝕄} :
    iprop(start m K c ∗ holds a0 c q₀ (xv m c) ∗ holds a1 c q₁ (bv m c) ∗ needs (F := F) c)
      ⊢ iprop((iprop(finish m K c ∗ holds a0 c q₀ (xv m c) ∗ holds a1 c q₁ (bv m c)) -∗ Q ⟨⟩) -∗ run c (here a0 h0 a1 h1 (cc0_body (F := F))) Q) := by
  simp only [cc0_body_eq_skeleton, cc0_body_skel, k0_part39_eq_skeleton, k0_part39_skel, Prog.lift, Prog.bind_assoc, Prog.bind_op, Prog.bind_ret, Prog.pure_eq_ret]
  unfold needs
  iintro ⟨Hs, A0, A1, N0, N1, N2, N3, N4, N5, N6⟩ Hk
  iapply (opening m c a0 h0 a1 h1) $$ [Hs A0 A1]
  · iframe
  iintro %v2 %v13 %v24 ⟨H, A0, A1, Bz⟩
  iapply (hops_early m c a0 h0 a1 h1 v2 v13 v24) $$ [H N0 N1 N2]
  · iframe
  iintro ⟨H, D0, D1⟩
  iapply (hop_three m c a0 h0 a1 h1 v2 v13 v24) $$ [H N3]
  · iframe
  iintro ⟨H, D2⟩
  iapply (hop_four m c a0 h0 a1 h1 v2 v13 v24) $$ [H N4]
  · iframe
  iintro ⟨H, D3⟩
  iapply (hops_late m c a0 h0 a1 h1 v2 v13 v24) $$ [H N5 N6]
  · iframe
  unfold last resBusy
  iintro ⟨⟨Ht, Te, Fe, Hr, Hb, S0, S1, ⟨P10, P11⟩, P01, P00, D60⟩, D4, D5⟩
  iapply (go_wait m c (putS 0 1) rfl (outM (org false 6 c)) (out_ccw c 5) wO rfl) $$ Ht P01
  iintro ⟨Ht, ⟨D61, R01⟩, P01⟩
  iapply (go_wait m c (putS 1 0) rfl (outM (org true 7 c)) (out_cw c 6) wO rfl) $$ Ht P10
  iintro ⟨Ht, ⟨D70, R10⟩, P10⟩
  iapply (go_wait m c (putS 1 1) rfl (outM (org false 7 c)) (out_ccw c 6) wO rfl) $$ Ht P11
  iintro ⟨Ht, ⟨D71, R11⟩, P11⟩
  iapply (go_wait m c (putS 0 0) rfl (outM (org true 8 c)) (out_cw c 7) wO rfl) $$ Ht P00
  iintro ⟨Ht, ⟨D8, R00⟩, P00⟩
  iapply (go_ret c)
  iapply Hk
  ihave R00 := (any_intro c _) $$ R00
  ihave R01 := (any_intro c _) $$ R01
  ihave R10 := (any_intro c _) $$ R10
  ihave R11 := (any_intro c _) $$ R11
  unfold finish resFree wrote
  iframe
  unfold done
  isplitl [D60 D61]
  · isplitl [D60]; · iexact D60
    iexact D61
  isplitl [D70]; · iexact D70
  iexact D71

end Cert.Ring
-- ==== Proof.Enter.lean ====
/-
From the launch to the body: the rights to wait the launch deals, and what a device starts the body from.
-/
module

public import proofs.«01_k».proof.Proof.Cells
public import proofs.«01_k».proof.Proof.Body
public import Idealize.ShloMosaic.Lib.Pipeline.BigSepL

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-! ## The rights to wait that the launch deals -/

theorem sum_due (l : List Site) :
    (∑ d : Dev nD, tallyL (l.map (due d)) : CellTallies nD τ sig ℕ) = ∑ c : Dev nD, tallyL (l.map fun x => ((x.cell c, x.idx, x.units) : Pay nD τ sig)) := by
  induction l with
  | nil => rfl
  | cons x l ih =>
    simp only [List.map_cons, tallyL, Finset.sum_add_distrib]
    rw [ih]
    have key (e : Dev nD ≃ Dev nD) (he : ∀ d, x.tgt d = e d) : (∑ d : Dev nD, (due d x).tally) = ∑ c : Dev nD, TalkSites.Pay.tally (x.cell c, x.idx, x.units) := by
      simp only [due, he]
      exact Equiv.sum_comp e fun c => TalkSites.Pay.tally (x.cell c, x.idx, x.units)
    refine congrArg (· + _) ?_
    cases x <;> exact key (ring _) fun _ => rfl

/-- What all devices owe, sorted by whom they owe it: each device may wait for its own cells' payments. -/
theorem launchCred_list (l : List Site) (c : Dev nD) :
    (Pipeline.launchCred (fun d : Dev nD => tallyL (l.map (due d))) c : sProp 𝕄) = bigSepL l fun x => cred (tallyAt (x.cell c) x.idx x.units) := by
  refine (Pipeline.launchCred_of_sum (fun d : Dev nD => tallyL (l.map (due d))) (fun c : Dev nD => tallyL (l.map fun x => ((x.cell c, x.idx, x.units) : Pay nD τ sig))) ?_ ?_ c).trans ?_
  · exact sum_due l
  · intro d g hg
    obtain ⟨i, hi⟩ := DFunLike.ne_iff.mp hg
    obtain ⟨y, hy, e, -⟩ := TalkSites.tallyL_pos (Nat.pos_of_ne_zero hi)
    obtain ⟨x, -, rfl⟩ := List.mem_map.mp hy
    exact congrArg Prod.fst e
  · rw [TalkSites.cred_tallyL, bigSepL_map]

theorem launchCred_eq (c : Dev nD) :
    (Pipeline.launchCred (fun d => owed d 0) c : sProp 𝕄) = bigSepL sites fun x => cred (tallyAt (x.cell c) x.idx x.units) := by
  rw [show (fun d : Dev nD => owed d 0) = fun d => tallyL (sites.map (due d)) from funext fun d => by unfold owed; rw [List.drop_zero]]
  exact launchCred_list sites c

/-- The payments one by one, the barrier's and each direction's first credit apart. -/
theorem rights (c : Dev nD) :
    (Pipeline.launchCred (fun d => owed d 0) c : sProp 𝕄)
      = iprop(cred (tallyAt (c.tc, .reg barS) 1 1) ∗ cred (tallyAt (c.tc, .reg barS) 1 1)
        ∗ cred (tallyAt (c.tc, .reg (crdS true)) 2 2) ∗ cred (tallyAt (c.tc, .reg (crdS false)) 2 2)
        ∗ rcvTok (F := F) true 0 c ∗ rcvTok (F := F) false 0 c ∗ crdTok (F := F) true 2 c ∗ crdTok (F := F) false 2 c
        ∗ rcvTok (F := F) true 1 c ∗ rcvTok (F := F) false 1 c ∗ crdTok (F := F) true 3 c ∗ crdTok (F := F) false 3 c
        ∗ rcvTok (F := F) true 2 c ∗ rcvTok (F := F) false 2 c ∗ crdTok (F := F) true 4 c ∗ crdTok (F := F) false 4 c
        ∗ rcvTok (F := F) true 3 c ∗ rcvTok (F := F) false 3 c ∗ crdTok (F := F) true 5 c ∗ crdTok (F := F) false 5 c
        ∗ rcvTok (F := F) true 4 c ∗ rcvTok (F := F) false 4 c ∗ crdTok (F := F) true 6 c ∗ crdTok (F := F) false 6 c
        ∗ rcvTok (F := F) true 5 c ∗ rcvTok (F := F) false 5 c ∗ crdTok (F := F) true 7 c ∗ rcvTok (F := F) true 6 c
        ∗ rcvTok (F := F) false 6 c ∗ rcvTok (F := F) true 7 c) := by
  rw [launchCred_eq, show sites = [.bar false, .bar true, .crd true 0, .crd false 0, .rcv true 0, .rcv false 0, .crd true 1, .crd false 1, .rcv true 1, .rcv false 1, .crd true 2, .crd false 2, .rcv true 2, .rcv false 2, .crd true 3, .crd false 3, .rcv true 3, .rcv false 3, .crd true 4, .crd false 4, .rcv true 4, .rcv false 4, .crd true 5, .crd false 5, .rcv true 5, .rcv false 5, .crd true 6, .rcv true 6, .rcv false 6, .rcv true 7] from by decide]
  rfl

theorem two_units (g : GSem nD τ sig) (i : ℕ) : (cred (tallyAt g i 2) : sProp 𝕄) = iprop(cred (tallyAt g i 1) ∗ cred (tallyAt g i 1)) := by
  rw [show (2 : ℕ) = 1 + 1 from rfl, ← tallyAt_add]
  exact BI.Entails.antisymm (cred_add _ _).1 (cred_add _ _).2

/-- The first payment of credit is for two hops. -/
theorem first_credit (d : Bool) (c : Dev nD) : (cred (tallyAt (c.tc, .reg (crdS d)) 2 2) : sProp 𝕄) = iprop(crdTok (F := F) d 0 c ∗ crdTok (F := F) d 1 c) := by
  rw [two_units]; rfl

/-! ## The output by where its blocks come from -/

theorem by_origin (c : Dev nD) (Φ : Fin 16 → sProp 𝕄) :
    bigSep Finset.univ Φ = iprop(Φ c ∗ Φ (org true 1 c) ∗ Φ (org false 1 c) ∗ Φ (org true 2 c) ∗ Φ (org false 2 c) ∗ Φ (org true 3 c)
      ∗ Φ (org false 3 c) ∗ Φ (org true 4 c) ∗ Φ (org false 4 c) ∗ Φ (org true 5 c) ∗ Φ (org false 5 c) ∗ Φ (org true 6 c)
      ∗ Φ (org false 6 c) ∗ Φ (org true 7 c) ∗ Φ (org false 7 c) ∗ Φ (org true 8 c)) :=
  bigSep_univ_eq_bigSepL [c, org true 1 c, org false 1 c, org true 2 c, org false 2 c, org true 3 c, org false 3 c, org true 4 c, org false 4 c, org true 5 c, org false 5 c, org true 6 c, org false 6 c, org true 7 c, org false 7 c, org true 8 c] (by revert c; decide) (by revert c; decide) Φ

/-! ## Into the body -/

/-- The kernel's scratch buffers, whatever they hold. -/
def scratch (c : Dev nD) : sProp 𝕄 :=
  iprop(anyOf (F := F) (Memref.whole cc0_scratch0) c ∗ anyOf (F := F) (Memref.whole cc0_scratch1) c ∗ anyOf (F := F) (Memref.whole cc0_scratch2) c
    ∗ anyOf (F := F) (Memref.whole cc0_scratch7) c ∗ anyOf (F := F) (Memref.whole cc0_scratch10) c)

/-- What a device has as the kernel is entered, what it owes and the operands' windows apart. -/
def entry (c : Dev nD) : sProp 𝕄 :=
  iprop(G' m c ∗ Pipeline.launchCred (fun d => owed d 0) c ∗ anyOf (F := F) (Memref.whole main_v1) c
    ∗ levAts (SiteBlocks.L NL) SiteBlocks.lv ∗ scratch (F := F) c)

theorem copies_eq (c : Dev nD) : (copies c : sProp 𝕄)
    = iprop(zero c (stgS true 0) ∗ zero c (stgS false 0) ∗ zero c (stgS true 1) ∗ zero c (stgS false 1)
      ∗ zero c (putS 0 0) ∗ zero c (putS 0 1) ∗ zero c (putS 1 0) ∗ zero c (putS 1 1)
      ∗ zero c (sndS true (sl 0)) ∗ zero c (sndS true (sl 1)) ∗ zero c (sndS true (sl 2)) ∗ zero c (sndS true (sl 3))
      ∗ zero c (sndS false (sl 0)) ∗ zero c (sndS false (sl 1)) ∗ zero c (sndS false (sl 2)) ∗ zero c (sndS false (sl 3))) := rfl

/-- With what it owes, it is what the body starts from. -/
theorem enter (c : Dev nD) :
    iprop(entry m c ∗ ∃ W, owes (c : Thread nD τ) (owed c 0) W) ⊢ iprop(∃ K, start m K c ∗ needs (F := F) c) := by
  have hat : (bigSep chans (fun s => (atPos ER (c.tc, s) 0 ∅ 0 : sProp 𝕄)))
      = iprop((atPos ER (c.tc, .reg (crdS true)) 0 ∅ 0 ∗ atPos ER (c.tc, .reg (crdS false)) 0 ∅ 0
        ∗ rpos (F := F) true 0 c 0 ∗ rpos (F := F) true 1 c 0 ∗ rpos (F := F) true 2 c 0 ∗ rpos (F := F) true 3 c 0
        ∗ rpos (F := F) false 0 c 0 ∗ rpos (F := F) false 1 c 0 ∗ rpos (F := F) false 2 c 0 ∗ rpos (F := F) false 3 c 0 ∗ atPos ER (c.tc, .reg barS) 0 ∅ 0)) := by
    rw [bigSep_eq_bigSepL_of_eq chanL chans_eq chanL_nodup]; rfl
  unfold entry G' scratch
  rw [rights, first_credit true, first_credit false, hat, copies_eq, out_any, by_origin c, cw_any, ccw_any, cmp_any, res_any,
    bM_any, cmpRow_any, cmpRow_any, resRow_any, resRow_any]
  iintro ⟨⟨⟨%K, HI, ⟨Pt, Pf, P0t, P1t, P2t, P3t, P0f, P1f, P2f, P3f, Pb⟩, Htk, S1, S2, S3, S4, U1, U2, U3, U4, Z0t, Z1t, Z2t, Z3t, Z0f, Z1f, Z2f, Z3f⟩,
    ⟨B0, B1, ⟨C0t, C1t⟩, ⟨C0f, C1f⟩, R0t, R0f, C2t, C2f, R1t, R1f, C3t, C3f, R2t, R2f, C4t, C4f, R3t, R3f, C5t, C5f, R4t, R4f, C6t, C6f, R5t, R5f, C7t, R6t, R6f, R7t⟩,
    ⟨Oc, O1t, O1f, O2t, O2f, O3t, O3f, O4t, O4f, O5t, O5f, O6t, O6f, O7t, O7f, O8t⟩, Hlev,
    ⟨W0, W1, W2, W3⟩, ⟨X0, X1, X2, X3⟩, ⟨⟨M0, M1⟩, M2, M3⟩, ⟨⟨V0, V1⟩, V2, V3⟩, Hb⟩, HO⟩
  iexists K
  isplitl [HI Pt Pf P0t P1t P2t P3t P0f P1f P2f P3f Pb Htk S1 S2 S3 S4 U1 U2 U3 U4 Z0t Z1t Z2t Z3t Z0f Z1f Z2f Z3f B0 B1 C0t C0f Oc Hlev W0 W1 W2 W3 X0 X1 X2 X3 M0 M1 M2 M3 V0 V1 V2 V3 Hb HO]
  · unfold start on env todo
    isplitl [HI Hlev Htk HO]; · iframe; iexact Htk
    isplitl [B0 B1]
    · iapply (Entails.of_eq (two_units (F := F) (c.tc, .reg barS) 1).symm)
      iframe
    isplitl [Pb]; · iexact Pb
    isplitl [C0t]; · iexact C0t
    isplitl [C0f]; · iexact C0f
    isplitl [W0 W1 W2 W3 Z0t Z1t Z2t Z3t P0t P1t P2t P3t Pt]
    · unfold unsent cpos
      iframe
      isplitl [W0 W1 W2 W3]
      · isplitl [W0]; · iexact W0
        isplitl [W1]; · iexact W1
        isplitl [W2]; · iexact W2
        iexact W3
      iexists ∅; iexact Pt
    isplitl [X0 X1 X2 X3 Z0f Z1f Z2f Z3f P0f P1f P2f P3f Pf]
    · unfold unsent cpos
      iframe
      isplitl [X0 X1 X2 X3]
      · isplitl [X0]; · iexact X0
        isplitl [X1]; · iexact X1
        isplitl [X2]; · iexact X2
        iexact X3
      iexists ∅; iexact Pf
    unfold idle resFree
    iframe
  unfold needs need needLast outs
  iframe

end Cert.Ring
-- ==== Proof.Leave.lean ====
/-
From the body's end back to the launch: the output whole, the receive semaphores taken back.
-/
module

public import proofs.«01_k».proof.Proof.Enter

@[expose] public section

noncomputable section

namespace Cert.Ring

open Cert.KernelIdeal Cert.KernelIdeal.Gen

open Idealize.ShloMosaic
open Idealize.ShloMosaic.TcCoe
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-! ## The output -/

/-- Block `o` of device `c`'s output: its own block's product, that of a block that came `h` hops in either direction, or
    that of the one opposite. -/
def blockAt (c : Dev nD) (o : Fin 16) : Vec F S1024x1024 .f32 :=
  if (c.val + 16 - o.val) % 16 = 0 then ownV m c
  else if (c.val + 16 - o.val) % 16 < 8 then half 0 (hopV m ((c.val + 16 - o.val) % 16) c)
  else if (c.val + 16 - o.val) % 16 = 8 then farV m c
  else half 1 (hopV m (16 - (c.val + 16 - o.val) % 16) c)

/-- Device `c`'s output. -/
def outAt (c : Dev nD) : Vec F S16384x1024 .f32 := fun x =>
  blockAt m c ⟨(x 0).val / 1024, by have : (x 0).val < 16384 := (x 0).isLt; omega⟩
    (ix2 (⟨(x 0).val % 1024, Nat.mod_lt _ (by decide)⟩ : Fin 1024) (x 1 : Fin 1024))

theorem outBlock_outAt (c : Dev nD) (o : Fin 16) : outBlock o (outAt m c) = blockAt m c o := by
  funext y
  have hy : (y 0).val < 1024 := (y 0).isLt
  have h1 : (o.val * 1024 + (y 0).val) / 1024 = o.val := by omega
  have h2 : (o.val * 1024 + (y 0).val) % 1024 = (y 0).val := by omega
  show blockAt m c ⟨(o.val * 1024 + (y 0).val) / 1024, _⟩ (ix2 (⟨(o.val * 1024 + (y 0).val) % 1024, _⟩ : Fin 1024) (y 1 : Fin 1024)) = _
  simp only [h1, h2]
  refine congrArg _ (funext fun a => ?_)
  fin_cases a <;> rfl

theorem behind (d : Bool) (h : ℕ) (hh : h < 9) (c : Dev nD) :
    (c.val + 16 - (org d h c).val) % 16 = if d then h else (16 - h) % 16 := by
  have key : ∀ (d : Bool) (h : Fin 9) (c : Dev nD), (c.val + 16 - (org d h.val c).val) % 16 = if d then h.val else (16 - h.val) % 16 := by decide
  exact key d ⟨h, hh⟩ c

theorem block_own (c : Dev nD) : blockAt m c c = ownV m c := if_pos (by omega)
theorem block_far (c : Dev nD) : blockAt m c (org true 8 c) = farV m c := by
  unfold blockAt
  rw [show (c.val + 16 - (org true 8 c).val) % 16 = 8 from behind true 8 (by decide) c]
  rfl
theorem block_up (h : ℕ) (h1 : 1 ≤ h) (h7 : h ≤ 7) (c : Dev nD) : blockAt m c (org true h c) = half 0 (hopV m h c) := by
  unfold blockAt
  rw [show (c.val + 16 - (org true h c).val) % 16 = h from behind true h (by omega) c, if_neg (by omega), if_pos (by omega)]
theorem block_down (h : ℕ) (h1 : 1 ≤ h) (h7 : h ≤ 7) (c : Dev nD) : blockAt m c (org false h c) = half 1 (hopV m h c) := by
  have e : (c.val + 16 - (org false h c).val) % 16 = 16 - h := (behind false h (by omega) c).trans (Nat.mod_eq_of_lt (by omega))
  unfold blockAt
  rw [e, if_neg (by omega), if_neg (by omega), if_neg (by omega), show 16 - (16 - h) = h by omega]

/-- The output's blocks together are the output. -/
theorem wrote_out (c : Dev nD) : wrote m c ⊢ holds (Memref.whole main_v1) c fullShare (outAt m c) := by
  have e : (bigSep Finset.univ fun o : Fin 16 => holds (outM o) c fullShare (outBlock o (outAt m c)) : sProp 𝕄)
      = bigSep Finset.univ fun o : Fin 16 => holds (outM o) c fullShare (blockAt m c o) :=
    bigSep_congr fun o _ => by rw [outBlock_outAt]
  rw [out_holds, e, by_origin c, block_own, block_far, block_up m 1 (by decide) (by decide) c, block_down m 1 (by decide) (by decide) c,
    block_up m 2 (by decide) (by decide) c, block_down m 2 (by decide) (by decide) c,
    block_up m 3 (by decide) (by decide) c, block_down m 3 (by decide) (by decide) c,
    block_up m 4 (by decide) (by decide) c, block_down m 4 (by decide) (by decide) c,
    block_up m 5 (by decide) (by decide) c, block_down m 5 (by decide) (by decide) c,
    block_up m 6 (by decide) (by decide) c, block_down m 6 (by decide) (by decide) c,
    block_up m 7 (by decide) (by decide) c, block_down m 7 (by decide) (by decide) c]
  unfold wrote done
  iintro ⟨H0, ⟨A1, B1⟩, ⟨A2, B2⟩, ⟨A3, B3⟩, ⟨A4, B4⟩, ⟨A5, B5⟩, ⟨A6, B6⟩, ⟨A7, B7⟩, H8⟩
  iframe

/-! ## Out of the body -/

variable {K : GSem nD τ sig → ℕ}

/-- A receive semaphore whose blocks have all come is taken back. -/
theorem shut (c : Dev nD) (d : Bool) (h r : ℕ) (hr : hops d ≤ 4 * r + h % 4) :
    iprop(env m K ∗ rpos (F := F) d h c r) ⊢ |={Set.univ}=> semVal ((Site.rcv d h).cell c) 0 := by
  have e : (Site.rcv d h).cell c = (Site.rcv d (h % 4)).cell c := by
    show ((c.tc, .dma (rcvS d (sl h))) : GSem nD τ sig) = (c.tc, .dma (rcvS d (sl (h % 4))))
    rw [show sl (h % 4) = sl h from Fin.ext (Nat.mod_mod h 4)]
  have hm : h % 4 < hops d := by have := Nat.mod_lt h (show 0 < 4 by decide); cases d <;> simp only [hops] <;> omega
  have hi : env m K ⊢ cellInv ER (Rd m) (K ((Site.rcv d h).cell c)) ((Site.rcv d h).cell c) := by
    rw [e]; exact env_inv m (site_rcv_mem d (h % 4) hm) c
  unfold rpos
  iintro ⟨#He, Hat⟩
  imod (Rounds.cell_close ER (Rd m) (Set.mem_univ (K ((Site.rcv d h).cell c))) (fun h => h) (R := r)
    (fun r' hr' => duties_rcv_later m c d (sl h) r' (by show hops d ≤ 4 * r' + h % 4; omega))) $$ [Hat] with Hz
  · isplitr
    · iapply hi; iexact He
    iexact Hat
  imodintro
  iexact Hz

/-- What a device has as the kernel is left: the output and the scratch, and its semaphores at zero. -/
def exit (c : Dev nD) : sProp 𝕄 :=
  iprop(holds (Memref.whole main_v1) c fullShare (outAt m c) ∗ scratch (F := F) c
    ∗ Pipeline.ownSems0 (Ix := ℕ) (Name := ℕ) (U := UU) (Lvl := ℕ) (Val := Elt F) (τ := τ) osem c ∗ unscopedSems0 c)

theorem leave (c : Dev nD) : finish m K c ⊢ |={Set.univ}=> iprop(exit m c ∗ ∃ W, owes (c : Thread nD τ) 0 W) := by
  have hch : (bigSep chans (fun s => (semVal (c.tc, s) 0 : sProp 𝕄)))
      = iprop(semVal (c.tc, .reg (crdS true)) 0 ∗ semVal (c.tc, .reg (crdS false)) 0
        ∗ semVal ((Site.rcv true 8).cell c) 0 ∗ semVal ((Site.rcv true 9).cell c) 0 ∗ semVal ((Site.rcv true 10).cell c) 0 ∗ semVal ((Site.rcv true 11).cell c) 0
        ∗ semVal ((Site.rcv false 8).cell c) 0 ∗ semVal ((Site.rcv false 9).cell c) 0 ∗ semVal ((Site.rcv false 10).cell c) 0 ∗ semVal ((Site.rcv false 7).cell c) 0
        ∗ semVal (c.tc, .reg barS) 0) := by
    rw [bigSep_eq_bigSepL_of_eq chanL chans_eq chanL_nodup]; rfl
  unfold exit
  rw [sems_eq, hch, copies_eq]
  unfold finish on todo ended received
  rw [show owed c 30 = 0 from by unfold owed; rw [show sites.drop 30 = [] from by decide]; rfl]
  iintro ⟨⟨#He, HO, -⟩, ⟨⟨W0, W1, W2, W3⟩, ⟨Z0t, Z1t, Z2t, Z3t⟩, Ct⟩, ⟨⟨X0, X1, X2, X3⟩, ⟨Z0f, Z1f, Z2f, Z3f⟩, Cf⟩,
    ⟨⟨P0t, P1t, P2t, P3t⟩, P0f, P1f, P2f, P3f⟩, Hb, I0, I1, F0, F1, Ho, Hbar⟩
  imod (shut m c true 8 2 (by decide)) $$ [P0t] with R0t
  · isplitr; · iexact He
    iexact P0t
  imod (shut m c true 9 2 (by decide)) $$ [P1t] with R1t
  · isplitr; · iexact He
    iexact P1t
  imod (shut m c true 10 2 (by decide)) $$ [P2t] with R2t
  · isplitr; · iexact He
    iexact P2t
  imod (shut m c true 11 2 (by decide)) $$ [P3t] with R3t
  · isplitr; · iexact He
    iexact P3t
  imod (shut m c false 8 2 (by decide)) $$ [P0f] with R0f
  · isplitr; · iexact He
    iexact P0f
  imod (shut m c false 9 2 (by decide)) $$ [P1f] with R1f
  · isplitr; · iexact He
    iexact P1f
  imod (shut m c false 10 2 (by decide)) $$ [P2f] with R2f
  · isplitr; · iexact He
    iexact P2f
  imod (shut m c false 7 1 (by decide)) $$ [P3f] with R3f
  · isplitr; · iexact He
    iexact P3f
  imodintro
  ihave Ho := (wrote_out m c) $$ Ho
  ihave Hb := (any_intro c (M := bM) (bbf m c)) $$ Hb
  unfold idle resFree scratch
  rw [cw_any, ccw_any, cmp_any, res_any, bM_any, cmpRow_any, cmpRow_any, resRow_any, resRow_any]
  icases I0 with ⟨S1, S2, M0, M1⟩
  icases I1 with ⟨S3, S4, M2, M3⟩
  icases F0 with ⟨U1, U2, V0, V1⟩
  icases F1 with ⟨U3, U4, V2, V3⟩
  isplitr [HO]
  · isplitl [Ho]; · iexact Ho
    isplitl [W0 W1 W2 W3 X0 X1 X2 X3 M0 M1 M2 M3 V0 V1 V2 V3 Hb]
    · isplitl [W0 W1 W2 W3]
      · isplitl [W0]; · iexact W0
        isplitl [W1]; · iexact W1
        isplitl [W2]; · iexact W2
        iexact W3
      isplitl [X0 X1 X2 X3]
      · isplitl [X0]; · iexact X0
        isplitl [X1]; · iexact X1
        isplitl [X2]; · iexact X2
        iexact X3
      iframe
    iframe
  iexact HO

end Cert.Ring
-- ==== Proof.Launch.lean ====
/-
The launch: the region's data, its side conditions, and the run of @main on all devices.
-/
module

public import proofs.«01_k».proof.Proof.Leave
public import Idealize.ShloMosaic.Lib.Pipeline.CollectiveSegs
public import Idealize.ShloMosaic.Lib.Quiescent

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-! ## The region's data -/

variable (ρ : Dev nD → PrngReg)

/-- Before the region's one point the device stands at its entry, after it at its exit; the operands' windows are read and
    left as they are. -/
def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xv m c
    | ⟨1, _⟩ => bv m c
  Φ t := match t with
    | ⟨0, _⟩ => entry m c
    | ⟨_ + 1, _⟩ => exit m c
  q _ := fullShare
  owed t := match t with
    | ⟨0, _⟩ => owed c 0
    | ⟨_ + 1, _⟩ => 0

/-- The body finds the device's rows in the first operand's buffer. -/
theorem before_x (c : Dev nD) (d) : (dats m ρ 0 c).before (0 : Fin 2) t0_0 d = xv m c := by
  unfold Pipeline.Dat.before
  rw [if_pos (fetch0_0 t0_0)]
  unfold Pipeline.Dat.fetched Pipeline.Window.fill Pipeline.Dat.blockOf
  funext y
  rw [dif_pos (by rfl)]
  refine congrArg (m (c.tc.loc main_arg0)) (funext fun a => Fin.ext ?_)
  match a with
  | ⟨0, _⟩ => exact (by omega : 0 * 1024 + 1 * (y 0).val = (y 0).val)
  | ⟨1, _⟩ => exact (by omega : 0 * 512 + 1 * (y 1).val = (y 1).val)

/-- The body finds the right-hand matrix in the second operand's buffer. -/
theorem before_b (c : Dev nD) (d) : (dats m ρ 0 c).before (1 : Fin 2) t0_0 d = bv m c := by
  unfold Pipeline.Dat.before
  rw [if_pos (fetch0_1 t0_0)]
  unfold Pipeline.Dat.fetched Pipeline.Window.fill Pipeline.Dat.blockOf
  funext y
  rw [dif_pos (by rfl)]
  refine congrArg (m (c.tc.loc main_arg1)) (funext fun a => Fin.ext ?_)
  match a with
  | ⟨0, _⟩ => exact (by omega : 0 * 512 + 1 * (y 0).val = (y 0).val)
  | ⟨1, _⟩ => exact (by omega : 0 * 1024 + 1 * (y 1).val = (y 1).val)

theorem owns_holds {ms : Space} {s : Shape} {e : EltTy} (M : Memref sig .tc ms s e) (c : Dev nD) (q : PosShare TreeShare) (X : Vec F s e) :
    (owns (Ix := ℕ) (Name := ℕ) (U := UU) (Lvl := ℕ) (c : Thread nD τ) M q X : sProp 𝕄) = holds M c q X := by
  have h₁ : (owns (Ix := ℕ) (Name := ℕ) (U := UU) (Lvl := ℕ) (c : Thread nD τ) M q X : sProp 𝕄) ⊢ holds M c q X := by
    unfold owns
    iintro ⟨%f, %hf, H⟩
    iapply (Entails.of_eq (points_holds c q M f hf)) $$ H
  have h₂ : holds M c q X ⊢ (owns (Ix := ℕ) (Name := ℕ) (U := UU) (Lvl := ℕ) (c : Thread nD τ) M q X : sProp 𝕄) := by
    unfold owns
    iintro H
    unfold holds
    iexists (M.view.rep X)
    isplitr
    · ipureintro; exact M.view.read_rep X
    iexact H
  exact BI.Entails.antisymm h₁ h₂

/-- What the device holds before the body. -/
def before₀ (c : Dev nD) : sProp 𝕄 :=
  iprop(entry m c ∗ (dats m ρ 0 c).owesAt 0 t0_0.castSucc
    ∗ (∃ _ : Vec F S1024x512 .f32, holds (st0_0 t0_0) c fullShare (xv m c)) ∗ (∃ _ : Vec F S512x1024 .f32, holds (st0_1 t0_0) c fullShare (bv m c)))

/-- What it holds after. -/
def after₀ (c : Dev nD) : sProp 𝕄 :=
  iprop(exit m c ∗ (dats m ρ 0 c).owesAt 0 t0_0.succ ∗ holds (st0_0 t0_0) c fullShare (xv m c) ∗ holds (st0_1 t0_0) c fullShare (bv m c))

set_option maxRecDepth 40000 in
theorem body_obligation (c : Dev nD) : Pipeline.BodyObligation (dats (F := F) m ρ 0 c) (defs₀ (F := F)) 𝒱₀ 0 Set.univ := fun t => by
  rw [fin_N0 t]
  rw [bigSep_W0, bigSep_W0]
  simp only [owns_holds, before_x, before_b]
  show before₀ m ρ c ⊢ run c (here (st0_0 t0_0) (hstage0_0 0) (st0_1 t0_0) (hstage0_1 0) (cc0_body (F := F))) fun _ => after₀ m ρ c
  unfold before₀ Pipeline.Dat.owesAt Pipeline.owesWithin
  iintro ⟨He, Ho, ⟨%_, A0⟩, ⟨%_, A1⟩⟩
  icases Ho with ⟨%W, %hW, HO⟩
  ihave H := (enter m c) $$ [He HO]
  · isplitl [He]; · iexact He
    iexists W; iexact HO
  icases H with ⟨%K, Hs, Hn⟩
  iapply (wp_fupd (Fr := frame) (wpE := wpE (defs₀ (F := F)) 𝒱₀ (c : Thread nD τ) none) Set.univ
    (here (st0_0 t0_0) (hstage0_0 0) (st0_1 t0_0) (hstage0_1 0) (cc0_body (F := F))) fun _ => after₀ m ρ c)
  iapply (body_run m c (st0_0 t0_0) (hstage0_0 0) (st0_1 t0_0) (hstage0_1 0)) $$ [Hs Hn A0 A1]
  · iframe
  iintro ⟨Hf, A0, A1⟩
  imod (leave m c) $$ Hf with ⟨Hx, %W', HO⟩
  imodintro
  unfold after₀ Pipeline.Dat.owesAt Pipeline.owesWithin
  isplitl [Hx]; · iexact Hx
  isplitl [HO]
  · iexists W'
    isplitr; · ipureintro; exact fun _ _ => Or.inl trivial
    iexact HO
  iframe

/-! ## The launch's side conditions -/

/-- A buffer's memref holds what the buffer does. -/
theorem holds_buf (b : Ref sig .tc) (c : Dev nD) (q : PosShare TreeShare) (X : Vec F b.ty.shape b.ty.elt) :
    (holds (Memref.whole b) c q X : sProp 𝕄) = ((c.tc : Thread nD τ).loc b ↦{q} X) := by
  rw [← points_holds c q (Memref.whole b) X (View.read_whole b X)]
  simp only [Memref.view_whole, View.set_whole]

/-- Either way of writing that a scratch buffer holds something. -/
theorem any_whole (b : Ref sig .tc) (c : Dev nD) :
    (anyOf (Memref.whole b) c : sProp 𝕄) = iprop(∃ f : Buf (Elt F) ((c.tc : Thread nD τ).loc b), ((c.tc : Thread nD τ).loc b) ↦{fullShare} f) := by
  unfold anyOf
  simp only [holds_buf]

theorem share_eq (c : Dev nD) (w : Fin cfg0.W) : (dats m ρ 0 c).share w = fullShare := by unfold Pipeline.Dat.share; split <;> rfl

/-- The pipeline's own waits stand below everything a device owes. -/
theorem waits (c : Dev nD) : (levAts (SiteBlocks.L NL) SiteBlocks.lv : sProp 𝕄) ⊢ Pipeline.cellsWaits cfgs (dats m ρ) 0 0 c :=
  Pipeline.cellsWaits_intro cfgs (dats m ρ) 0 0 c fun w s t => by
    rcases t with ⟨_ | k, ht⟩
    · exact mayWait_at c _ 0 0 (by decide) (by decide)
    · exact mayWait_at c _ 0 30 (by decide) (by decide)

/-- The device's entry, the scratch buffers apart. -/
def given (c : Dev nD) : sProp 𝕄 :=
  iprop(G' m c ∗ Pipeline.launchCred (fun d => owed d 0) c ∗ anyOf (F := F) (Memref.whole main_v1) c ∗ levAts (SiteBlocks.L NL) SiteBlocks.lv)

theorem given_intro (c : Dev nD) :
    iprop(Pipeline.unscopedRestP Pipeline.Prefetch.none cfg0.spec c (fun b => m ((c : Thread nD τ).loc b)) ∗ levAts (SiteBlocks.L NL) SiteBlocks.lv
        ∗ Pipeline.launchCred (fun d => owed d 0) c ∗ prngReg c (ρ c) ∗ G' m c)
      ⊢ (|={Set.univ}=> iprop(given m c ∗ emp) : sProp 𝕄) := by
  rw [Pipeline.unscopedRestP_none, show cfg0.spec = spec0 from rfl, unscopedRest0_eq]
  iintro ⟨Hv, Hlev, Hcr, -, HG⟩
  imodintro
  unfold given
  rw [any_whole]
  isplitl
  · isplitl [HG]; · iexact HG
    isplitl [Hcr]; · iexact Hcr
    isplitl [Hv]
    · iexists _; iexact Hv
    iexact Hlev
  · iempintro

theorem entry_intro (c : Dev nD) :
    iprop(given m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = entry m c from rfl, show cfg0.spec = spec0 from rfl, scopedRest0_eq]
  unfold given entry scratch
  rw [any_whole cc0_scratch0, any_whole cc0_scratch1, any_whole cc0_scratch2, any_whole cc0_scratch7, any_whole cc0_scratch10]
  iintro ⟨⟨H1, H2, H3, H4⟩, -, Hs⟩
  isplitl [H1]; · iexact H1
  isplitl [H2]; · iexact H2
  isplitl [H3]; · iexact H3
  isplitl [H4]; · iexact H4
  iexact Hs

/-- What a device brings out of the region: its output, and its barrier and credit semaphores at zero. -/
def brought (c : Dev nD) : sProp 𝕄 := iprop(holds (Memref.whole main_v1) c fullShare (outAt m c) ∗ unscopedSems0 c)

theorem exit_elim (c : Dev nD) :
    (dats m ρ 0 c).Φ (Fin.last cfg0.N) ⊢ iprop(brought m c ∗ Pipeline.ownSems0 osem c ∗ Pipeline.scopedRest cfg0.spec c) := by
  rw [show (dats m ρ 0 c).Φ (Fin.last cfg0.N) = exit m c from rfl, show cfg0.spec = spec0 from rfl, scopedRest0_eq]
  unfold brought exit scratch
  rw [any_whole cc0_scratch0, any_whole cc0_scratch1, any_whole cc0_scratch2, any_whole cc0_scratch7, any_whole cc0_scratch10]
  iintro ⟨H1, Hs, H2, H3⟩
  isplitl [H1 H3]
  · isplitl [H1]; · iexact H1
    iexact H3
  isplitl [H2]; · iexact H2
  iexact Hs

/-- What is read of a final memory off what a device brought out. -/
def Read (c : Dev nD) (s : MemSt nD τ sig (Elt F)) : Prop :=
  s.mem ((c.tc : Thread nD τ).loc main_v1) = outAt m c ∧ ∀ sm : SemLoc sig, sm.isScoped .tc = false → s.sem ((c.tc : Thread nD τ), sm) = 0

theorem brought_read (c : Dev nD) (s' : Phys nD τ sig (Elt F)) :
    iprop(brought m c ∗ emp ∗ SI s') ⊢ (|={Set.univ}=> iprop(⌜Read m c s'.mem⌝ ∗ SI s') : sProp 𝕄) := by
  unfold brought
  rw [holds_buf]
  iintro ⟨⟨Hv, Hu⟩, -, HSI⟩
  ihave H := (pointsTo_read_all {()} (fun _ : Unit => (c.tc : Thread nD τ).loc main_v1) (fun _ => outAt m c) s') $$ [Hv HSI]
  · rw [bigSep_singleton (I := Unit)]
    isplitl [Hv] <;> iassumption
  icases H with ⟨%hv, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hv () (Finset.mem_singleton_self _), hu⟩
  iexact HSI

/-! ## The run -/

/-- What a final state holds: every device's operands as they were, its output all blocks in their places. -/
def QC (r : PUnit × MemSt nD τ sig (Elt F)) : Prop :=
  ∀ c : Dev nD, (r.2.mem (c.tc.loc main_arg0) = m (c.tc.loc main_arg0) ∧ r.2.mem (c.tc.loc main_arg1) = m (c.tc.loc main_arg1))
    ∧ r.2.mem (c.tc.loc main_v1) = outAt m c

set_option maxRecDepth 40000 in
/-- On sixteen devices, from any memory with every counter zero and for any float values: every weakly fair execution of
    @main ends, and every final state has the operands unchanged, every device's output at `outAt` and every counter
    at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _)
    (harr := arr_whole0) (hstage := stage_whole0) (hshare := share_eq m ρ) (hdistinct := winFacts0.arr_inj)
    (O₀ := fun d => owed d 0) (howed₀ := fun _ => rfl) (howedN := fun _ => rfl)
    (L := SiteBlocks.L NL) (lv := SiteBlocks.lv) (hL := SiteBlocks.hL NL) (hwaits := waits m ρ)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_ring m) $$ HX with HG
      imodintro
      isplitl [HP] <;> iassumption)
    (hglob := glob m) (hA := fun _ _ => rfl) (hpf := fun _ k => k.elim0)
    (X := given m) (Y := brought m) (Z := fun _ => iprop(emp)) (hX := given_intro m ρ) (hin := entry_intro m ρ) (hout := exit_elim m ρ)
    (QY := Read m) (hY := brought_read m)
    (hQ := fun _ h hs => ⟨fun c => ⟨⟨((h c).1 (0 : Fin 2)).trans ((dats m ρ 0 c).arrAt_in (0 : Fin 2) rfl _),
        ((h c).1 (1 : Fin 2)).trans ((dats m ρ 0 c).arrAt_in (1 : Fin 2) rfl _)⟩, (h c).2.2.1⟩, sem_eq_zero hs fun c => (h c).2.2.2⟩)

end Cert.Ring
-- ==== Proof.Values.lean ====
/-
What the kernel's output is over the extended reals: `A @ B`, whole, on every device.
-/
module

public import proofs.«01_k».proof.Proof.Leave
public import proofs.«01_k».proof.Proof.Gen.ReferenceIdeal
public import Idealize.ShloMosaic.Lib.MatmulPlain
public import Idealize.ShloMosaic.Lib.StackMember
public import Idealize.ShloMosaic.Lib.ValueLayout
public import Idealize.ShloMosaic.Lib.ValueIdx
public import Idealize.ShloMosaic.Lib.Layout

@[expose] public section

noncomputable section

namespace Cert.Ring

open Cert.KernelIdeal Cert.KernelIdeal.Gen

open Idealize.ShloMosaic
open Idealize.ShloMosaic.TcCoe
open Idealize.ShloMosaic.ValueIdx (ix2 ix3 ix4 reshapeEquiv_ix2_1ab shapeCast_1abc_abc_apply shapeCast_ab_1ab_apply)

variable (m : (ℓ : Loc nD τ sig) → Buf (Elt Ideal) ℓ)

/-! ## One product -/

/-- A block's row against a column of `B`. -/
def entryOf (X : Vec Ideal S1024x512 .bf16) (B : Vec Ideal S512x1024 .bf16) (r s : Fin 1024) : EReal :=
  ∑ k : Fin 512, X (ix2 r k) * B (ix2 k s)

/-- A product accumulated on zeros is the sums of products, -/
theorem product_apply {M : ℕ} (X : FVec Ideal ⟨2, ![M, 512]⟩ .bf16) (B : FVec Ideal S512x1024 .bf16) (r : Fin M) (s : Fin 1024) :
    matmul (DotDims.plain M 512 1024) none X B (constant ⟨2, ![M, 1024]⟩ .f32 0x00000000#32) (ix2 r s)
      = ∑ k : Fin 512, X (ix2 r k) * B (ix2 k s) := by
  refine (Ideal.matmul_plain_apply none X B _ r s).trans ?_
  rw [show constant (F := Ideal) ⟨2, ![M, 1024]⟩ .f32 0x00000000#32 (ix2 r s) = 0 from Ideal.ofBits_zero_f32, zero_add]

/-- dropping a block's leading unit axis keeps its two coordinates, -/
theorem flat_apply (W : Vec Ideal S1x1024x1024 .f32) (r s : Fin 1024) : flat W (ix2 r s) = W (ix3 (0 : Fin 1) r s) :=
  congrArg W (reshapeEquiv_ix2_1ab _ r s)

/-- and putting axes on and taking them off changes nothing. -/
theorem shapeCast_wide (X : Vec Ideal S1024x512 .bf16) : shapeCast S1024x512 (wide X) shapeCasts_S1x1x1024x512_S1024x512 = X := by
  funext y
  exact congrArg X (Equiv.symm_apply_apply _ y)

/-- Two blocks one above the other, as the rows of one operand: row `b * 1024 + r` is row `r` of block `b`. -/
theorem stacked_apply (X Y : Vec Ideal S1024x512 .bf16) (b : Fin 2) (r : Fin 1024) (k : Fin 512) (ρ : Fin 2048) (hρ : ρ.val = b.val * 1024 + r.val) :
    shapeCast S2048x512 (shapeCast S2x1024x512 (pair X Y) shapeCasts_S1x2x1024x512_S2x1024x512) shapeCasts_S2x1024x512_S2048x512 (ix2 ρ k)
      = (if b = 0 then X else Y) (ix2 r k) := by
  refine (shapeCast_apply _ _ (ix2 ρ k) (ix3 b r k) ?_).trans ?_
  · rw [Shape.rowMajor_val_three, Shape.rowMajor_val_two]
    show (b.val * 1024 + r.val) * 512 + k.val = ρ.val * 512 + k.val
    rw [hρ]
  · refine (shapeCast_1abc_abc_apply _ _ b r k).trans ?_
    show (if b.val = 0 then X (ix2 r k) else Y (ix2 r k)) = _
    by_cases hb : b = 0
    · subst hb; rfl
    · rw [if_neg hb, if_neg (show ¬b.val = 0 from fun h => hb (Fin.ext h))]

/-! ## The three kinds of block -/

/-- A device's own block, once multiplied and flattened, -/
theorem own_entry (X : Vec Ideal S1024x512 .bf16) (B : Vec Ideal S512x1024 .bf16) (r s : Fin 1024) :
    flat (k0_pay5 X B) (ix2 r s) = entryOf X B r s := by
  rw [flat_apply]
  unfold k0_pay5
  exact (shapeCast_ab_1ab_apply _ _ 0 r s).trans (product_apply X B r s)

/-- the block that comes last, alone, -/
theorem far_entry (X : Vec Ideal S1024x512 .bf16) (B : Vec Ideal S512x1024 .bf16) (r s : Fin 1024) :
    flat (k0_pay14 (wide X) B) (ix2 r s) = entryOf X B r s := by
  rw [flat_apply]
  unfold k0_pay14
  refine (shapeCast_ab_1ab_apply _ _ 0 r s).trans ?_
  rw [shapeCast_wide]
  exact product_apply X B r s

/-- and either of two multiplied together give that block's rows against `B`'s columns. -/
theorem hop_entry (X Y : Vec Ideal S1024x512 .bf16) (B : Vec Ideal S512x1024 .bf16) (b : Fin 2) (r s : Fin 1024) :
    half b (k0_pay6 (pair X Y) B) (ix2 r s) = entryOf (if b = 0 then X else Y) B r s := by
  unfold half k0_pay6
  refine (shapeCast_ab_1ab_apply _ _ 0 _ s).trans ((product_apply _ B _ s).trans (Finset.sum_congr rfl fun k _ => ?_))
  rw [stacked_apply X Y b r k _ rfl]

/-! ## The output -/

/-- Narrowing changes no value here, in `A`, -/
theorem abf_eq (c : Dev nD) : abf m c = xv m c := by
  unfold abf k0_pay1
  rw [shapeCast_self]
  rfl
/-- nor in `B`. -/
theorem bbf_eq (c : Dev nD) : bbf m c = bv m c := by
  unfold bbf k0_pay2
  dsimp only
  rw [shapeCast_self, shapeCast_self]
  rfl

/-- Every device's block is its own, comes some hops in one of the directions, or is the one opposite. -/
theorem reached : ∀ c o : Dev nD, o = c ∨ (∃ h : Fin 7, o = org true (h.val + 1) c) ∨ (∃ h : Fin 7, o = org false (h.val + 1) c) ∨ o = org true 8 c := by
  decide

/-- Block `o` of any device's output is device `o`'s rows of `A` times the device's `B`. -/
theorem blockAt_apply (c o : Dev nD) (r s : Fin 1024) : blockAt m c o (ix2 r s) = entryOf (xv m o) (bv m c) r s := by
  rcases reached c o with h | ⟨h, e⟩ | ⟨h, e⟩ | h
  · subst h
    rw [block_own, ← abf_eq m, ← bbf_eq m]
    exact own_entry _ _ r s
  · subst e
    rw [block_up m (h.val + 1) (by omega) (by omega) c, ← abf_eq m, ← bbf_eq m]
    exact hop_entry _ _ _ 0 r s
  · subst e
    rw [block_down m (h.val + 1) (by omega) (by omega) c, ← abf_eq m, ← bbf_eq m]
    exact hop_entry _ _ _ 1 r s
  · subst h
    rw [block_far, ← abf_eq m, ← bbf_eq m]
    exact far_entry _ _ r s

/-- The product the reference computes. -/
abbrev whole (A : FVec Ideal Cert.ReferenceIdeal.S16384x512 .f32) (B : FVec Ideal Cert.ReferenceIdeal.S512x1024 .f32) :
    FVec Ideal Cert.ReferenceIdeal.S16384x1024 .f32 :=
  Host.dotGeneral Cert.ReferenceIdeal.dot_S16384x512_S512x1024_S16384x1024_1_0_0_1_n_n none A B

/-- With `A` cut along its rows over the devices and `B` whole on each, every device's output is `A @ B`. -/
theorem outAt_eq (A : Vec Ideal ⟨2, ![16384, 512]⟩ .f32) (B : Vec Ideal S512x1024 .f32)
    (h : ∀ c : Dev nD, xv m c = Layout.block ⟨2, ![1024, 512]⟩ ⟨2, ![16384, 512]⟩ 0 16 c A ∧ bv m c = B) (c : Dev nD) :
    outAt m c = whole A B := by
  funext x
  obtain ⟨R, s, rfl⟩ : ∃ (R : Fin 16384) (s : Fin 1024), x = ix2 R s := ⟨x 0, x 1, by funext a; fin_cases a <;> rfl⟩
  refine (blockAt_apply m c ⟨R.val / 1024, (Nat.div_lt_iff_lt_mul (by decide)).mpr R.isLt⟩ ⟨R.val % 1024, by omega⟩ s).trans ?_
  refine Eq.trans ?_ (StackMember.dotGeneral_plain_apply none A B R s).symm
  unfold entryOf
  refine Finset.sum_congr rfl fun k _ => ?_
  rw [(h _).1, (h c).2]
  refine congrArg (fun i => A i * B (ix2 k s)) (funext fun a => Fin.ext ?_)
  match a with
  | ⟨0, _⟩ => exact Nat.div_add_mod' R.val 1024
  | ⟨1, _⟩ => rfl

end Cert.Ring
-- ==== Proof.lean ====
/-
The claims of this certificate, put together: the kernel's run (Proof/Launch.lean) gives both of its frames, the generated
run of the reference its frame and the value that the kernel's (Proof/Values.lean) is compared with.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Values

@[expose] public section

noncomputable section

namespace Cert.Proof

open Idealize.ShloMosaic Idealize.SL.Sem

/-- The idealized kernel runs, leaves its operands as they were and every counter at zero. -/
theorem frame_kernelIdeal : Cert.quiescent_KernelIdeal := fun m ρ _ =>
  (θ_run Cert.KernelIdeal.defs _ _).mono (fun _ h => ⟨fun c => (h.1 c).1, h.2⟩) (Cert.Ring.run_main (F := Ideal) m ρ)

/-- The kernel as printed and as idealized have the same body under their one label; -/
theorem defs₀_eq {F : FTy → Type} [FloatOps F] : Cert.Kernel.defs₀ (F := F) = Cert.KernelIdeal.defs₀ (F := F) := by
  funext p l x
  cases p with
  | tc =>
    match l, x with
    | ⟨0, _⟩, (_, _) => rfl
  | _ => rfl

/-- so the same pipeline. -/
theorem defs_eq {F : FTy → Type} [FloatOps F] : Cert.Kernel.defs (F := F) = Cert.KernelIdeal.defs (F := F) :=
  congrArg (Pipeline.defs Cert.KernelIdeal.pcfgs) defs₀_eq

/-- The kernel as printed runs and ends the same way: it is the same program, read at bits. -/
theorem frame_kernel : Cert.quiescent_Kernel := fun m ρ _ => by
  rw [defs_eq]
  exact (θ_run Cert.KernelIdeal.defs _ _).mono (fun _ h => ⟨fun c => (h.1 c).1, h.2⟩) (Cert.Ring.run_main (F := Bits) m ρ)

/-- The reference runs, leaves its operands as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With `A` cut along its rows over the devices and `B` whole on each, every device's result is the reference's. -/
theorem algebraic : Cert.algebraic_KernelIdeal_ReferenceIdeal := fun m ρ m' ρ' _ hm =>
  ⟨Cert.Ring.whole _ _,
    (θ_run Cert.KernelIdeal.defs _ _).mono
      (fun _ h c => ⟨(h.1 c).2.trans (Cert.Ring.outAt_eq m _ _ hm c), (h.1 c).1⟩) (Cert.Ring.run_main (F := Ideal) m ρ),
    (θ_run Cert.ReferenceIdeal.defs _ _).mono (fun _ h => h 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
